-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenReferenceIdeal (m : (ℓ : Loc Cert.HiddenReferenceIdeal.nD Cert.HiddenReferenceIdeal.τ Cert.HiddenReferenceIdeal.sig) → Buf (Elt Ideal) ℓ) : Prop :=
  True

def Pre_RetIn (m : (ℓ : Loc Cert.RetIn.nD Cert.RetIn.τ Cert.RetIn.sig) → Buf (Elt Bits) ℓ) : Prop :=
  True

def Pre_RetInIdeal (m : (ℓ : Loc Cert.RetInIdeal.nD Cert.RetInIdeal.τ Cert.RetInIdeal.sig) → Buf (Elt Ideal) ℓ) : Prop :=
  True

def Pre_RetInReferenceIdeal (m : (ℓ : Loc Cert.RetInReferenceIdeal.nD Cert.RetInReferenceIdeal.τ Cert.RetInReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RetOutReferenceIdeal (m : (ℓ : Loc Cert.RetOutReferenceIdeal.nD Cert.RetOutReferenceIdeal.τ Cert.RetOutReferenceIdeal.sig) → Buf (Elt Ideal) ℓ) : Prop :=
  True

def Pre_AttnIn (m : (ℓ : Loc Cert.AttnIn.nD Cert.AttnIn.τ Cert.AttnIn.sig) → Buf (Elt Bits) ℓ) : Prop :=
  True

def Pre_AttnInIdeal (m : (ℓ : Loc Cert.AttnInIdeal.nD Cert.AttnInIdeal.τ Cert.AttnInIdeal.sig) → Buf (Elt Ideal) ℓ) : Prop :=
  True

def Pre_AttnInReferenceIdeal (m : (ℓ : Loc Cert.AttnInReferenceIdeal.nD Cert.AttnInReferenceIdeal.τ Cert.AttnInReferenceIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutReferenceIdeal (m : (ℓ : Loc Cert.AttnOutReferenceIdeal.nD Cert.AttnOutReferenceIdeal.τ Cert.AttnOutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2)
      ∧ r.2.mem ((c.tc : Thread Cert.Hidden.nD Cert.Hidden.τ).loc Cert.Hidden.main_arg3) = m ((c.tc : Thread Cert.Hidden.nD Cert.Hidden.τ).loc Cert.Hidden.main_arg3))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ r.2.sem = fun _ => 0)

def quiescent_HiddenReferenceIdeal [hHiddenReferenceIdeal : Cert.HiddenReferenceIdeal.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1)
      ∧ r.2.mem ((c.tc : Thread Cert.HiddenReferenceIdeal.nD Cert.HiddenReferenceIdeal.τ).loc Cert.HiddenReferenceIdeal.main_arg2) = m ((c.tc : Thread Cert.HiddenReferenceIdeal.nD Cert.HiddenReferenceIdeal.τ).loc Cert.HiddenReferenceIdeal.main_arg2)
      ∧ r.2.mem ((c.tc : Thread Cert.HiddenReferenceIdeal.nD Cert.HiddenReferenceIdeal.τ).loc Cert.HiddenReferenceIdeal.main_arg3) = m ((c.tc : Thread Cert.HiddenReferenceIdeal.nD Cert.HiddenReferenceIdeal.τ).loc Cert.HiddenReferenceIdeal.main_arg3))
      ∧ r.2.sem = fun _ => 0)

def quiescent_RetIn [hRetIn : Cert.RetIn.Facts] : Prop :=
  ∀ (m : (ℓ : Loc Cert.RetIn.nD Cert.RetIn.τ Cert.RetIn.sig) → Buf (Elt Bits) ℓ) (g : Dev Cert.RetIn.nD → PrngReg), Pre_RetIn m →
    θ_run (Cert.RetIn.defs (F := Bits)) (onTc (τ := Cert.RetIn.τ) (Cert.RetIn.main (F := Bits))) ⟨m, fun _ => 0, g⟩ (fun r => (∀ c : Dev Cert.RetIn.nD,
      r.2.mem ((c.tc : Thread Cert.RetIn.nD Cert.RetIn.τ).loc Cert.RetIn.main_arg0) = m ((c.tc : Thread Cert.RetIn.nD Cert.RetIn.τ).loc Cert.RetIn.main_arg0)
      ∧ r.2.mem ((c.tc : Thread Cert.RetIn.nD Cert.RetIn.τ).loc Cert.RetIn.main_arg1) = m ((c.tc : Thread Cert.RetIn.nD Cert.RetIn.τ).loc Cert.RetIn.main_arg1))
      ∧ r.2.sem = fun _ => 0)

def quiescent_RetInIdeal [hRetInIdeal : Cert.RetInIdeal.Facts] : Prop :=
  ∀ (m : (ℓ : Loc Cert.RetInIdeal.nD Cert.RetInIdeal.τ Cert.RetInIdeal.sig) → Buf (Elt Ideal) ℓ) (g : Dev Cert.RetInIdeal.nD → PrngReg), Pre_RetInIdeal m →
    θ_run (Cert.RetInIdeal.defs (F := Ideal)) (onTc (τ := Cert.RetInIdeal.τ) (Cert.RetInIdeal.main (F := Ideal))) ⟨m, fun _ => 0, g⟩ (fun r => (∀ c : Dev Cert.RetInIdeal.nD,
      r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
      ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1))
      ∧ r.2.sem = fun _ => 0)

def quiescent_RetInReferenceIdeal [hRetInReferenceIdeal : Cert.RetInReferenceIdeal.Facts] : Prop :=
  ∀ (m : (ℓ : Loc Cert.RetInReferenceIdeal.nD Cert.RetInReferenceIdeal.τ Cert.RetInReferenceIdeal.sig) → Buf (Elt Ideal) ℓ) (g : Dev Cert.RetInReferenceIdeal.nD → PrngReg), Pre_RetInReferenceIdeal m →
    θ_run (Cert.RetInReferenceIdeal.defs (F := Ideal)) (onTc (τ := Cert.RetInReferenceIdeal.τ) (Cert.RetInReferenceIdeal.main (F := Ideal))) ⟨m, fun _ => 0, g⟩ (fun r => (∀ c : Dev Cert.RetInReferenceIdeal.nD,
      r.2.mem ((c.tc : Thread Cert.RetInReferenceIdeal.nD Cert.RetInReferenceIdeal.τ).loc Cert.RetInReferenceIdeal.main_arg0) = m ((c.tc : Thread Cert.RetInReferenceIdeal.nD Cert.RetInReferenceIdeal.τ).loc Cert.RetInReferenceIdeal.main_arg0)
      ∧ r.2.mem ((c.tc : Thread Cert.RetInReferenceIdeal.nD Cert.RetInReferenceIdeal.τ).loc Cert.RetInReferenceIdeal.main_arg1) = m ((c.tc : Thread Cert.RetInReferenceIdeal.nD Cert.RetInReferenceIdeal.τ).loc Cert.RetInReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1)
      ∧ r.2.mem ((c.tc : Thread Cert.RetOut.nD Cert.RetOut.τ).loc Cert.RetOut.main_arg2) = m ((c.tc : Thread Cert.RetOut.nD Cert.RetOut.τ).loc Cert.RetOut.main_arg2))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
      ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2))
      ∧ r.2.sem = fun _ => 0)

def quiescent_RetOutReferenceIdeal [hRetOutReferenceIdeal : Cert.RetOutReferenceIdeal.Facts] : Prop :=
  ∀ (m : (ℓ : Loc Cert.RetOutReferenceIdeal.nD Cert.RetOutReferenceIdeal.τ Cert.RetOutReferenceIdeal.sig) → Buf (Elt Ideal) ℓ) (g : Dev Cert.RetOutReferenceIdeal.nD → PrngReg), Pre_RetOutReferenceIdeal m →
    θ_run (Cert.RetOutReferenceIdeal.defs (F := Ideal)) (onTc (τ := Cert.RetOutReferenceIdeal.τ) (Cert.RetOutReferenceIdeal.main (F := Ideal))) ⟨m, fun _ => 0, g⟩ (fun r => (∀ c : Dev Cert.RetOutReferenceIdeal.nD,
      r.2.mem ((c.tc : Thread Cert.RetOutReferenceIdeal.nD Cert.RetOutReferenceIdeal.τ).loc Cert.RetOutReferenceIdeal.main_arg0) = m ((c.tc : Thread Cert.RetOutReferenceIdeal.nD Cert.RetOutReferenceIdeal.τ).loc Cert.RetOutReferenceIdeal.main_arg0)
      ∧ r.2.mem ((c.tc : Thread Cert.RetOutReferenceIdeal.nD Cert.RetOutReferenceIdeal.τ).loc Cert.RetOutReferenceIdeal.main_arg1) = m ((c.tc : Thread Cert.RetOutReferenceIdeal.nD Cert.RetOutReferenceIdeal.τ).loc Cert.RetOutReferenceIdeal.main_arg1)
      ∧ r.2.mem ((c.tc : Thread Cert.RetOutReferenceIdeal.nD Cert.RetOutReferenceIdeal.τ).loc Cert.RetOutReferenceIdeal.main_arg2) = m ((c.tc : Thread Cert.RetOutReferenceIdeal.nD Cert.RetOutReferenceIdeal.τ).loc Cert.RetOutReferenceIdeal.main_arg2))
      ∧ r.2.sem = fun _ => 0)

def quiescent_AttnIn [hAttnIn : Cert.AttnIn.Facts] : Prop :=
  ∀ (m : (ℓ : Loc Cert.AttnIn.nD Cert.AttnIn.τ Cert.AttnIn.sig) → Buf (Elt Bits) ℓ) (g : Dev Cert.AttnIn.nD → PrngReg), Pre_AttnIn m →
    θ_run (Cert.AttnIn.defs (F := Bits)) (onTc (τ := Cert.AttnIn.τ) (Cert.AttnIn.main (F := Bits))) ⟨m, fun _ => 0, g⟩ (fun r => (∀ c : Dev Cert.AttnIn.nD,
      r.2.mem ((c.tc : Thread Cert.AttnIn.nD Cert.AttnIn.τ).loc Cert.AttnIn.main_arg0) = m ((c.tc : Thread Cert.AttnIn.nD Cert.AttnIn.τ).loc Cert.AttnIn.main_arg0)
      ∧ r.2.mem ((c.tc : Thread Cert.AttnIn.nD Cert.AttnIn.τ).loc Cert.AttnIn.main_arg1) = m ((c.tc : Thread Cert.AttnIn.nD Cert.AttnIn.τ).loc Cert.AttnIn.main_arg1))
      ∧ r.2.sem = fun _ => 0)

def quiescent_AttnInIdeal [hAttnInIdeal : Cert.AttnInIdeal.Facts] : Prop :=
  ∀ (m : (ℓ : Loc Cert.AttnInIdeal.nD Cert.AttnInIdeal.τ Cert.AttnInIdeal.sig) → Buf (Elt Ideal) ℓ) (g : Dev Cert.AttnInIdeal.nD → PrngReg), Pre_AttnInIdeal m →
    θ_run (Cert.AttnInIdeal.defs (F := Ideal)) (onTc (τ := Cert.AttnInIdeal.τ) (Cert.AttnInIdeal.main (F := Ideal))) ⟨m, fun _ => 0, g⟩ (fun r => (∀ c : Dev Cert.AttnInIdeal.nD,
      r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
      ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1))
      ∧ r.2.sem = fun _ => 0)

def quiescent_AttnInReferenceIdeal [hAttnInReferenceIdeal : Cert.AttnInReferenceIdeal.Facts] : Prop :=
  ∀ (m : (ℓ : Loc Cert.AttnInReferenceIdeal.nD Cert.AttnInReferenceIdeal.τ Cert.AttnInReferenceIdeal.sig) → Buf (Elt Ideal) ℓ) (g : Dev Cert.AttnInReferenceIdeal.nD → PrngReg), Pre_AttnInReferenceIdeal m →
    θ_run (Cert.AttnInReferenceIdeal.defs (F := Ideal)) (onTc (τ := Cert.AttnInReferenceIdeal.τ) (Cert.AttnInReferenceIdeal.main (F := Ideal))) ⟨m, fun _ => 0, g⟩ (fun r => (∀ c : Dev Cert.AttnInReferenceIdeal.nD,
      r.2.mem ((c.tc : Thread Cert.AttnInReferenceIdeal.nD Cert.AttnInReferenceIdeal.τ).loc Cert.AttnInReferenceIdeal.main_arg0) = m ((c.tc : Thread Cert.AttnInReferenceIdeal.nD Cert.AttnInReferenceIdeal.τ).loc Cert.AttnInReferenceIdeal.main_arg0)
      ∧ r.2.mem ((c.tc : Thread Cert.AttnInReferenceIdeal.nD Cert.AttnInReferenceIdeal.τ).loc Cert.AttnInReferenceIdeal.main_arg1) = m ((c.tc : Thread Cert.AttnInReferenceIdeal.nD Cert.AttnInReferenceIdeal.τ).loc Cert.AttnInReferenceIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2))
      ∧ r.2.sem = fun _ => 0)

def quiescent_AttnOutReferenceIdeal [hAttnOutReferenceIdeal : Cert.AttnOutReferenceIdeal.Facts] : Prop :=
  ∀ (m : (ℓ : Loc Cert.AttnOutReferenceIdeal.nD Cert.AttnOutReferenceIdeal.τ Cert.AttnOutReferenceIdeal.sig) → Buf (Elt Ideal) ℓ) (g : Dev Cert.AttnOutReferenceIdeal.nD → PrngReg), Pre_AttnOutReferenceIdeal m →
    θ_run (Cert.AttnOutReferenceIdeal.defs (F := Ideal)) (onTc (τ := Cert.AttnOutReferenceIdeal.τ) (Cert.AttnOutReferenceIdeal.main (F := Ideal))) ⟨m, fun _ => 0, g⟩ (fun r => (∀ c : Dev Cert.AttnOutReferenceIdeal.nD,
      r.2.mem ((c.tc : Thread Cert.AttnOutReferenceIdeal.nD Cert.AttnOutReferenceIdeal.τ).loc Cert.AttnOutReferenceIdeal.main_arg0) = m ((c.tc : Thread Cert.AttnOutReferenceIdeal.nD Cert.AttnOutReferenceIdeal.τ).loc Cert.AttnOutReferenceIdeal.main_arg0)
      ∧ r.2.mem ((c.tc : Thread Cert.AttnOutReferenceIdeal.nD Cert.AttnOutReferenceIdeal.τ).loc Cert.AttnOutReferenceIdeal.main_arg1) = m ((c.tc : Thread Cert.AttnOutReferenceIdeal.nD Cert.AttnOutReferenceIdeal.τ).loc Cert.AttnOutReferenceIdeal.main_arg1)
      ∧ r.2.mem ((c.tc : Thread Cert.AttnOutReferenceIdeal.nD Cert.AttnOutReferenceIdeal.τ).loc Cert.AttnOutReferenceIdeal.main_arg2) = m ((c.tc : Thread Cert.AttnOutReferenceIdeal.nD Cert.AttnOutReferenceIdeal.τ).loc Cert.AttnOutReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Hidden_HiddenIdeal : Prop :=
  True

def algebraic_HiddenIdeal_HiddenReferenceIdeal [hHiddenIdeal : Cert.HiddenIdeal.Facts] [hHiddenReferenceIdeal : Cert.HiddenReferenceIdeal.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenReferenceIdeal.nD Cert.HiddenReferenceIdeal.τ Cert.HiddenReferenceIdeal.sig) → Buf (Elt Ideal) ℓ) (g' : Dev Cert.HiddenReferenceIdeal.nD → PrngReg), Pre_HiddenIdeal m →
    (∀ c : Dev Cert.HiddenIdeal.nD,
      m' ((c.tc : Thread Cert.HiddenReferenceIdeal.nD Cert.HiddenReferenceIdeal.τ).loc Cert.HiddenReferenceIdeal.main_arg0) = m ((c.tc : Thread Cert.HiddenIdeal.nD Cert.HiddenIdeal.τ).loc Cert.HiddenIdeal.main_arg0)
      ∧ m' ((c.tc : Thread Cert.HiddenReferenceIdeal.nD Cert.HiddenReferenceIdeal.τ).loc Cert.HiddenReferenceIdeal.main_arg1) = m ((c.tc : Thread Cert.HiddenIdeal.nD Cert.HiddenIdeal.τ).loc Cert.HiddenIdeal.main_arg1)
      ∧ m' ((c.tc : Thread Cert.HiddenReferenceIdeal.nD Cert.HiddenReferenceIdeal.τ).loc Cert.HiddenReferenceIdeal.main_arg2) = m ((c.tc : Thread Cert.HiddenIdeal.nD Cert.HiddenIdeal.τ).loc Cert.HiddenIdeal.main_arg2)
      ∧ m' ((c.tc : Thread Cert.HiddenReferenceIdeal.nD Cert.HiddenReferenceIdeal.τ).loc Cert.HiddenReferenceIdeal.main_arg3) = m ((c.tc : Thread Cert.HiddenIdeal.nD Cert.HiddenIdeal.τ).loc Cert.HiddenIdeal.main_arg3)) →
    ∃ (v0 : (c : Dev Cert.HiddenIdeal.nD) → Buf (Elt Ideal) ((c.tc : Thread Cert.HiddenIdeal.nD Cert.HiddenIdeal.τ).loc Cert.HiddenIdeal.main_v4)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v4) = v0 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
          ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ θ_run (Cert.HiddenReferenceIdeal.defs (F := Ideal)) (onTc (τ := Cert.HiddenReferenceIdeal.τ) (Cert.HiddenReferenceIdeal.main (F := Ideal))) ⟨m', fun _ => 0, g'⟩ (fun r => ∀ c : Dev Cert.HiddenReferenceIdeal.nD,
          r.2.mem ((c.tc : Thread Cert.HiddenReferenceIdeal.nD Cert.HiddenReferenceIdeal.τ).loc Cert.HiddenReferenceIdeal.main_v17) = v0 c
          ∧ r.2.mem ((c.tc : Thread Cert.HiddenReferenceIdeal.nD Cert.HiddenReferenceIdeal.τ).loc Cert.HiddenReferenceIdeal.main_arg0) = m' ((c.tc : Thread Cert.HiddenReferenceIdeal.nD Cert.HiddenReferenceIdeal.τ).loc Cert.HiddenReferenceIdeal.main_arg0)
          ∧ r.2.mem ((c.tc : Thread Cert.HiddenReferenceIdeal.nD Cert.HiddenReferenceIdeal.τ).loc Cert.HiddenReferenceIdeal.main_arg1) = m' ((c.tc : Thread Cert.HiddenReferenceIdeal.nD Cert.HiddenReferenceIdeal.τ).loc Cert.HiddenReferenceIdeal.main_arg1)
          ∧ r.2.mem ((c.tc : Thread Cert.HiddenReferenceIdeal.nD Cert.HiddenReferenceIdeal.τ).loc Cert.HiddenReferenceIdeal.main_arg2) = m' ((c.tc : Thread Cert.HiddenReferenceIdeal.nD Cert.HiddenReferenceIdeal.τ).loc Cert.HiddenReferenceIdeal.main_arg2)
          ∧ r.2.mem ((c.tc : Thread Cert.HiddenReferenceIdeal.nD Cert.HiddenReferenceIdeal.τ).loc Cert.HiddenReferenceIdeal.main_arg3) = m' ((c.tc : Thread Cert.HiddenReferenceIdeal.nD Cert.HiddenReferenceIdeal.τ).loc Cert.HiddenReferenceIdeal.main_arg3))

def preserves_RetIn_RetInIdeal : Prop :=
  True

def algebraic_RetInIdeal_RetInReferenceIdeal [hRetInIdeal : Cert.RetInIdeal.Facts] [hRetInReferenceIdeal : Cert.RetInReferenceIdeal.Facts] : Prop :=
  ∀ (m : (ℓ : Loc Cert.RetInIdeal.nD Cert.RetInIdeal.τ Cert.RetInIdeal.sig) → Buf (Elt Ideal) ℓ) (g : Dev Cert.RetInIdeal.nD → PrngReg)
    (m' : (ℓ : Loc Cert.RetInReferenceIdeal.nD Cert.RetInReferenceIdeal.τ Cert.RetInReferenceIdeal.sig) → Buf (Elt Ideal) ℓ) (g' : Dev Cert.RetInReferenceIdeal.nD → PrngReg), Pre_RetInIdeal m →
    (∀ c : Dev Cert.RetInIdeal.nD,
      m' ((c.tc : Thread Cert.RetInReferenceIdeal.nD Cert.RetInReferenceIdeal.τ).loc Cert.RetInReferenceIdeal.main_arg0) = m ((c.tc : Thread Cert.RetInIdeal.nD Cert.RetInIdeal.τ).loc Cert.RetInIdeal.main_arg0)
      ∧ m' ((c.tc : Thread Cert.RetInReferenceIdeal.nD Cert.RetInReferenceIdeal.τ).loc Cert.RetInReferenceIdeal.main_arg1) = m ((c.tc : Thread Cert.RetInIdeal.nD Cert.RetInIdeal.τ).loc Cert.RetInIdeal.main_arg1)) →
    ∃ (v0 : (c : Dev Cert.RetInIdeal.nD) → Buf (Elt Ideal) ((c.tc : Thread Cert.RetInIdeal.nD Cert.RetInIdeal.τ).loc Cert.RetInIdeal.main_v5)),
      θ_run (Cert.RetInIdeal.defs (F := Ideal)) (onTc (τ := Cert.RetInIdeal.τ) (Cert.RetInIdeal.main (F := Ideal))) ⟨m, fun _ => 0, g⟩ (fun r => ∀ c : Dev Cert.RetInIdeal.nD,
          r.2.mem ((c.tc : Thread Cert.RetInIdeal.nD Cert.RetInIdeal.τ).loc Cert.RetInIdeal.main_v5) = v0 c
          ∧ r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
          ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1))
      ∧ θ_run (Cert.RetInReferenceIdeal.defs (F := Ideal)) (onTc (τ := Cert.RetInReferenceIdeal.τ) (Cert.RetInReferenceIdeal.main (F := Ideal))) ⟨m', fun _ => 0, g'⟩ (fun r => ∀ c : Dev Cert.RetInReferenceIdeal.nD,
          r.2.mem ((c.tc : Thread Cert.RetInReferenceIdeal.nD Cert.RetInReferenceIdeal.τ).loc Cert.RetInReferenceIdeal.main_v3) = v0 c
          ∧ r.2.mem ((c.tc : Thread Cert.RetInReferenceIdeal.nD Cert.RetInReferenceIdeal.τ).loc Cert.RetInReferenceIdeal.main_arg0) = m' ((c.tc : Thread Cert.RetInReferenceIdeal.nD Cert.RetInReferenceIdeal.τ).loc Cert.RetInReferenceIdeal.main_arg0)
          ∧ r.2.mem ((c.tc : Thread Cert.RetInReferenceIdeal.nD Cert.RetInReferenceIdeal.τ).loc Cert.RetInReferenceIdeal.main_arg1) = m' ((c.tc : Thread Cert.RetInReferenceIdeal.nD Cert.RetInReferenceIdeal.τ).loc Cert.RetInReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v5)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v12) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def preserves_RetOut_RetOutIdeal : Prop :=
  True

def algebraic_RetOutIdeal_RetOutReferenceIdeal [hRetOutIdeal : Cert.RetOutIdeal.Facts] [hRetOutReferenceIdeal : Cert.RetOutReferenceIdeal.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetOutReferenceIdeal.nD Cert.RetOutReferenceIdeal.τ Cert.RetOutReferenceIdeal.sig) → Buf (Elt Ideal) ℓ) (g' : Dev Cert.RetOutReferenceIdeal.nD → PrngReg), Pre_RetOutIdeal m →
    (∀ c : Dev Cert.RetOutIdeal.nD,
      m' ((c.tc : Thread Cert.RetOutReferenceIdeal.nD Cert.RetOutReferenceIdeal.τ).loc Cert.RetOutReferenceIdeal.main_arg0) = m ((c.tc : Thread Cert.RetOutIdeal.nD Cert.RetOutIdeal.τ).loc Cert.RetOutIdeal.main_arg0)
      ∧ m' ((c.tc : Thread Cert.RetOutReferenceIdeal.nD Cert.RetOutReferenceIdeal.τ).loc Cert.RetOutReferenceIdeal.main_arg1) = m ((c.tc : Thread Cert.RetOutIdeal.nD Cert.RetOutIdeal.τ).loc Cert.RetOutIdeal.main_arg1)
      ∧ m' ((c.tc : Thread Cert.RetOutReferenceIdeal.nD Cert.RetOutReferenceIdeal.τ).loc Cert.RetOutReferenceIdeal.main_arg2) = m ((c.tc : Thread Cert.RetOutIdeal.nD Cert.RetOutIdeal.τ).loc Cert.RetOutIdeal.main_arg2)) →
    ∃ (v0 : (c : Dev Cert.RetOutIdeal.nD) → Buf (Elt Ideal) ((c.tc : Thread Cert.RetOutIdeal.nD Cert.RetOutIdeal.τ).loc Cert.RetOutIdeal.main_v6)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v6) = v0 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
          ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2))
      ∧ θ_run (Cert.RetOutReferenceIdeal.defs (F := Ideal)) (onTc (τ := Cert.RetOutReferenceIdeal.τ) (Cert.RetOutReferenceIdeal.main (F := Ideal))) ⟨m', fun _ => 0, g'⟩ (fun r => ∀ c : Dev Cert.RetOutReferenceIdeal.nD,
          r.2.mem ((c.tc : Thread Cert.RetOutReferenceIdeal.nD Cert.RetOutReferenceIdeal.τ).loc Cert.RetOutReferenceIdeal.main_v3) = v0 c
          ∧ r.2.mem ((c.tc : Thread Cert.RetOutReferenceIdeal.nD Cert.RetOutReferenceIdeal.τ).loc Cert.RetOutReferenceIdeal.main_arg0) = m' ((c.tc : Thread Cert.RetOutReferenceIdeal.nD Cert.RetOutReferenceIdeal.τ).loc Cert.RetOutReferenceIdeal.main_arg0)
          ∧ r.2.mem ((c.tc : Thread Cert.RetOutReferenceIdeal.nD Cert.RetOutReferenceIdeal.τ).loc Cert.RetOutReferenceIdeal.main_arg1) = m' ((c.tc : Thread Cert.RetOutReferenceIdeal.nD Cert.RetOutReferenceIdeal.τ).loc Cert.RetOutReferenceIdeal.main_arg1)
          ∧ r.2.mem ((c.tc : Thread Cert.RetOutReferenceIdeal.nD Cert.RetOutReferenceIdeal.τ).loc Cert.RetOutReferenceIdeal.main_arg2) = m' ((c.tc : Thread Cert.RetOutReferenceIdeal.nD Cert.RetOutReferenceIdeal.τ).loc Cert.RetOutReferenceIdeal.main_arg2))

def preserves_AttnIn_AttnInIdeal : Prop :=
  True

def algebraic_AttnInIdeal_AttnInReferenceIdeal [hAttnInIdeal : Cert.AttnInIdeal.Facts] [hAttnInReferenceIdeal : Cert.AttnInReferenceIdeal.Facts] : Prop :=
  ∀ (m : (ℓ : Loc Cert.AttnInIdeal.nD Cert.AttnInIdeal.τ Cert.AttnInIdeal.sig) → Buf (Elt Ideal) ℓ) (g : Dev Cert.AttnInIdeal.nD → PrngReg)
    (m' : (ℓ : Loc Cert.AttnInReferenceIdeal.nD Cert.AttnInReferenceIdeal.τ Cert.AttnInReferenceIdeal.sig) → Buf (Elt Ideal) ℓ) (g' : Dev Cert.AttnInReferenceIdeal.nD → PrngReg), Pre_AttnInIdeal m →
    (∀ c : Dev Cert.AttnInIdeal.nD,
      m' ((c.tc : Thread Cert.AttnInReferenceIdeal.nD Cert.AttnInReferenceIdeal.τ).loc Cert.AttnInReferenceIdeal.main_arg0) = m ((c.tc : Thread Cert.AttnInIdeal.nD Cert.AttnInIdeal.τ).loc Cert.AttnInIdeal.main_arg0)
      ∧ m' ((c.tc : Thread Cert.AttnInReferenceIdeal.nD Cert.AttnInReferenceIdeal.τ).loc Cert.AttnInReferenceIdeal.main_arg1) = m ((c.tc : Thread Cert.AttnInIdeal.nD Cert.AttnInIdeal.τ).loc Cert.AttnInIdeal.main_arg1)) →
    ∃ (v0 : (c : Dev Cert.AttnInIdeal.nD) → Buf (Elt Ideal) ((c.tc : Thread Cert.AttnInIdeal.nD Cert.AttnInIdeal.τ).loc Cert.AttnInIdeal.main_v5)),
      θ_run (Cert.AttnInIdeal.defs (F := Ideal)) (onTc (τ := Cert.AttnInIdeal.τ) (Cert.AttnInIdeal.main (F := Ideal))) ⟨m, fun _ => 0, g⟩ (fun r => ∀ c : Dev Cert.AttnInIdeal.nD,
          r.2.mem ((c.tc : Thread Cert.AttnInIdeal.nD Cert.AttnInIdeal.τ).loc Cert.AttnInIdeal.main_v5) = v0 c
          ∧ r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
          ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1))
      ∧ θ_run (Cert.AttnInReferenceIdeal.defs (F := Ideal)) (onTc (τ := Cert.AttnInReferenceIdeal.τ) (Cert.AttnInReferenceIdeal.main (F := Ideal))) ⟨m', fun _ => 0, g'⟩ (fun r => ∀ c : Dev Cert.AttnInReferenceIdeal.nD,
          r.2.mem ((c.tc : Thread Cert.AttnInReferenceIdeal.nD Cert.AttnInReferenceIdeal.τ).loc Cert.AttnInReferenceIdeal.main_v3) = v0 c
          ∧ r.2.mem ((c.tc : Thread Cert.AttnInReferenceIdeal.nD Cert.AttnInReferenceIdeal.τ).loc Cert.AttnInReferenceIdeal.main_arg0) = m' ((c.tc : Thread Cert.AttnInReferenceIdeal.nD Cert.AttnInReferenceIdeal.τ).loc Cert.AttnInReferenceIdeal.main_arg0)
          ∧ r.2.mem ((c.tc : Thread Cert.AttnInReferenceIdeal.nD Cert.AttnInReferenceIdeal.τ).loc Cert.AttnInReferenceIdeal.main_arg1) = m' ((c.tc : Thread Cert.AttnInReferenceIdeal.nD Cert.AttnInReferenceIdeal.τ).loc Cert.AttnInReferenceIdeal.main_arg1))

def preserves_AttnOut_AttnOutIdeal : Prop :=
  True

def algebraic_AttnOutIdeal_AttnOutReferenceIdeal [hAttnOutIdeal : Cert.AttnOutIdeal.Facts] [hAttnOutReferenceIdeal : Cert.AttnOutReferenceIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutReferenceIdeal.nD Cert.AttnOutReferenceIdeal.τ Cert.AttnOutReferenceIdeal.sig) → Buf (Elt Ideal) ℓ) (g' : Dev Cert.AttnOutReferenceIdeal.nD → PrngReg), Pre_AttnOutIdeal m →
    (∀ c : Dev Cert.AttnOutIdeal.nD,
      m' ((c.tc : Thread Cert.AttnOutReferenceIdeal.nD Cert.AttnOutReferenceIdeal.τ).loc Cert.AttnOutReferenceIdeal.main_arg0) = m ((c.tc : Thread Cert.AttnOutIdeal.nD Cert.AttnOutIdeal.τ).loc Cert.AttnOutIdeal.main_arg0)
      ∧ m' ((c.tc : Thread Cert.AttnOutReferenceIdeal.nD Cert.AttnOutReferenceIdeal.τ).loc Cert.AttnOutReferenceIdeal.main_arg1) = m ((c.tc : Thread Cert.AttnOutIdeal.nD Cert.AttnOutIdeal.τ).loc Cert.AttnOutIdeal.main_arg1)
      ∧ m' ((c.tc : Thread Cert.AttnOutReferenceIdeal.nD Cert.AttnOutReferenceIdeal.τ).loc Cert.AttnOutReferenceIdeal.main_arg2) = m ((c.tc : Thread Cert.AttnOutIdeal.nD Cert.AttnOutIdeal.τ).loc Cert.AttnOutIdeal.main_arg2)) →
    ∃ (v0 : (c : Dev Cert.AttnOutIdeal.nD) → Buf (Elt Ideal) ((c.tc : Thread Cert.AttnOutIdeal.nD Cert.AttnOutIdeal.τ).loc Cert.AttnOutIdeal.main_v6)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v6) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2))
      ∧ θ_run (Cert.AttnOutReferenceIdeal.defs (F := Ideal)) (onTc (τ := Cert.AttnOutReferenceIdeal.τ) (Cert.AttnOutReferenceIdeal.main (F := Ideal))) ⟨m', fun _ => 0, g'⟩ (fun r => ∀ c : Dev Cert.AttnOutReferenceIdeal.nD,
          r.2.mem ((c.tc : Thread Cert.AttnOutReferenceIdeal.nD Cert.AttnOutReferenceIdeal.τ).loc Cert.AttnOutReferenceIdeal.main_v3) = v0 c
          ∧ r.2.mem ((c.tc : Thread Cert.AttnOutReferenceIdeal.nD Cert.AttnOutReferenceIdeal.τ).loc Cert.AttnOutReferenceIdeal.main_arg0) = m' ((c.tc : Thread Cert.AttnOutReferenceIdeal.nD Cert.AttnOutReferenceIdeal.τ).loc Cert.AttnOutReferenceIdeal.main_arg0)
          ∧ r.2.mem ((c.tc : Thread Cert.AttnOutReferenceIdeal.nD Cert.AttnOutReferenceIdeal.τ).loc Cert.AttnOutReferenceIdeal.main_arg1) = m' ((c.tc : Thread Cert.AttnOutReferenceIdeal.nD Cert.AttnOutReferenceIdeal.τ).loc Cert.AttnOutReferenceIdeal.main_arg1)
          ∧ r.2.mem ((c.tc : Thread Cert.AttnOutReferenceIdeal.nD Cert.AttnOutReferenceIdeal.τ).loc Cert.AttnOutReferenceIdeal.main_arg2) = m' ((c.tc : Thread Cert.AttnOutReferenceIdeal.nD Cert.AttnOutReferenceIdeal.τ).loc Cert.AttnOutReferenceIdeal.main_arg2))

def Claim : Prop :=
  ∃ (hKernel : Cert.Kernel.Facts) (hKernelIdeal : Cert.KernelIdeal.Facts) (hReferenceIdeal : Cert.ReferenceIdeal.Facts) (hHidden : Cert.Hidden.Facts) (hHiddenIdeal : Cert.HiddenIdeal.Facts) (hHiddenReferenceIdeal : Cert.HiddenReferenceIdeal.Facts) (hRetIn : Cert.RetIn.Facts) (hRetInIdeal : Cert.RetInIdeal.Facts) (hRetInReferenceIdeal : Cert.RetInReferenceIdeal.Facts) (hDown : Cert.Down.Facts) (hDownIdeal : Cert.DownIdeal.Facts) (hDownReferenceIdeal : Cert.DownReferenceIdeal.Facts) (hRetOut : Cert.RetOut.Facts) (hRetOutIdeal : Cert.RetOutIdeal.Facts) (hRetOutReferenceIdeal : Cert.RetOutReferenceIdeal.Facts) (hAttnIn : Cert.AttnIn.Facts) (hAttnInIdeal : Cert.AttnInIdeal.Facts) (hAttnInReferenceIdeal : Cert.AttnInReferenceIdeal.Facts) (hAttnOut : Cert.AttnOut.Facts) (hAttnOutIdeal : Cert.AttnOutIdeal.Facts) (hAttnOutReferenceIdeal : Cert.AttnOutReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Hidden (hHidden := hHidden)
    ∧ quiescent_HiddenIdeal (hHiddenIdeal := hHiddenIdeal)
    ∧ quiescent_HiddenReferenceIdeal (hHiddenReferenceIdeal := hHiddenReferenceIdeal)
    ∧ quiescent_RetIn (hRetIn := hRetIn)
    ∧ quiescent_RetInIdeal (hRetInIdeal := hRetInIdeal)
    ∧ quiescent_RetInReferenceIdeal (hRetInReferenceIdeal := hRetInReferenceIdeal)
    ∧ quiescent_Down (hDown := hDown)
    ∧ quiescent_DownIdeal (hDownIdeal := hDownIdeal)
    ∧ quiescent_DownReferenceIdeal (hDownReferenceIdeal := hDownReferenceIdeal)
    ∧ quiescent_RetOut (hRetOut := hRetOut)
    ∧ quiescent_RetOutIdeal (hRetOutIdeal := hRetOutIdeal)
    ∧ quiescent_RetOutReferenceIdeal (hRetOutReferenceIdeal := hRetOutReferenceIdeal)
    ∧ quiescent_AttnIn (hAttnIn := hAttnIn)
    ∧ quiescent_AttnInIdeal (hAttnInIdeal := hAttnInIdeal)
    ∧ quiescent_AttnInReferenceIdeal (hAttnInReferenceIdeal := hAttnInReferenceIdeal)
    ∧ quiescent_AttnOut (hAttnOut := hAttnOut)
    ∧ quiescent_AttnOutIdeal (hAttnOutIdeal := hAttnOutIdeal)
    ∧ quiescent_AttnOutReferenceIdeal (hAttnOutReferenceIdeal := hAttnOutReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Hidden_HiddenIdeal
    ∧ algebraic_HiddenIdeal_HiddenReferenceIdeal (hHiddenIdeal := hHiddenIdeal) (hHiddenReferenceIdeal := hHiddenReferenceIdeal)
    ∧ preserves_RetIn_RetInIdeal
    ∧ algebraic_RetInIdeal_RetInReferenceIdeal (hRetInIdeal := hRetInIdeal) (hRetInReferenceIdeal := hRetInReferenceIdeal)
    ∧ preserves_Down_DownIdeal
    ∧ algebraic_DownIdeal_DownReferenceIdeal (hDownIdeal := hDownIdeal) (hDownReferenceIdeal := hDownReferenceIdeal)
    ∧ preserves_RetOut_RetOutIdeal
    ∧ algebraic_RetOutIdeal_RetOutReferenceIdeal (hRetOutIdeal := hRetOutIdeal) (hRetOutReferenceIdeal := hRetOutReferenceIdeal)
    ∧ preserves_AttnIn_AttnInIdeal
    ∧ algebraic_AttnInIdeal_AttnInReferenceIdeal (hAttnInIdeal := hAttnInIdeal) (hAttnInReferenceIdeal := hAttnInReferenceIdeal)
    ∧ preserves_AttnOut_AttnOutIdeal
    ∧ algebraic_AttnOutIdeal_AttnOutReferenceIdeal (hAttnOutIdeal := hAttnOutIdeal) (hAttnOutReferenceIdeal := hAttnOutReferenceIdeal)
-- ==== Pre_finite.lean ====
abbrev S8x2048x6144 : Shape := ⟨3, ![8, 2048, 6144]⟩
abbrev S1x16384x6144 : Shape := ⟨3, ![1, 16384, 6144]⟩
abbrev S32 : Shape := ⟨1, ![32]⟩
abbrev S8x2048x5120 : Shape := ⟨3, ![8, 2048, 5120]⟩
abbrev S_ : Shape := ⟨0, ![]⟩
abbrev S1x16384x5120 : Shape := ⟨3, ![1, 16384, 5120]⟩

class Facts : Prop where
  slices_S8x2048x6144_S8x2048x5120_0_0_0 : S8x2048x6144.Slices ![0, 0, 0] S8x2048x5120
  bcast_S_S8x2048x5120 : S_.BroadcastsInDim S8x2048x5120 (![] : Fin 0 → Fin S8x2048x5120.rank)
  slices_S1x16384x6144_S1x16384x5120_0_0_0 : S1x16384x6144.Slices ![0, 0, 0] S1x16384x5120
  bcast_S_S1x16384x5120 : S_.BroadcastsInDim S1x16384x5120 (![] : Fin 0 → Fin S1x16384x5120.rank)
  bcast_S_S32 : S_.BroadcastsInDim S32 (![] : Fin 0 → Fin S32.rank)

variable [Facts]

def fn {F : FTy → Type} [FloatOps F] (main_arg0 : FVec F S8x2048x6144 .f32) (main_arg1 : FVec F S1x16384x6144 .f32) (main_arg2 : FVec F S32 .f32) : IVec S8x2048x5120 1 × IVec S1x16384x5120 1 × IVec S32 1 :=
  let main_v0 : FVec F S8x2048x5120 .f32 := (extractStridedSlice S8x2048x5120 ![0, 0, 0] · slices_S8x2048x6144_S8x2048x5120_0_0_0) main_arg0
  let main_v1 : FVec F S8x2048x5120 .f32 := Host.absf main_v0
  let main_cst : FVec F S_ .f32 := constant S_ .f32 0x7F800000#32
  let main_v2 : FVec F S8x2048x5120 .f32 := broadcastInDim S8x2048x5120 ![] bcast_S_S8x2048x5120 main_cst
  let main_v3 : IVec S8x2048x5120 1 := cmpf .olt main_v1 main_v2
  let main_v4 : FVec F S1x16384x5120 .f32 := (extractStridedSlice S1x16384x5120 ![0, 0, 0] · slices_S1x16384x6144_S1x16384x5120_0_0_0) main_arg1
  let main_v5 : FVec F S1x16384x5120 .f32 := Host.absf main_v4
  let main_cst_0 : FVec F S_ .f32 := constant S_ .f32 0x7F800000#32
  let main_v6 : FVec F S1x16384x5120 .f32 := broadcastInDim S1x16384x5120 ![] bcast_S_S1x16384x5120 main_cst_0
  let main_v7 : IVec S1x16384x5120 1 := cmpf .olt main_v5 main_v6
  let main_v8 : FVec F S32 .f32 := Host.absf main_arg2
  let main_cst_1 : FVec F S_ .f32 := constant S_ .f32 0x7F800000#32
  let main_v9 : FVec F S32 .f32 := broadcastInDim S32 ![] bcast_S_S32 main_cst_1
  let main_v10 : IVec S32 1 := cmpf .olt main_v8 main_v9
  (main_v3, main_v7, main_v10)
-- ==== Kernel.lean ====
abbrev S8x2048x6144 : Shape := ⟨3, ![8, 2048, 6144]⟩
abbrev S1x16384x6144 : Shape := ⟨3, ![1, 16384, 6144]⟩
abbrev S32 : Shape := ⟨1, ![32]⟩
abbrev S256 : Shape := ⟨1, ![256]⟩
abbrev S128x384 : Shape := ⟨2, ![128, 384]⟩
abbrev S16384x6144 : Shape := ⟨2, ![16384, 6144]⟩
abbrev S32768x6144 : Shape := ⟨2, ![32768, 6144]⟩
abbrev S_ : Shape := ⟨0, ![]⟩
abbrev S32x1x1 : Shape := ⟨3, ![32, 1, 1]⟩
abbrev S1x128x384 : Shape := ⟨3, ![1, 128, 384]⟩
abbrev S32x128x384 : Shape := ⟨3, ![32, 128, 384]⟩
abbrev S32768x4096 : Shape := ⟨2, ![32768, 4096]⟩
abbrev S128x4096 : Shape := ⟨2, ![128, 4096]⟩
abbrev S128x1024 : Shape := ⟨2, ![128, 1024]⟩
abbrev S1x384 : Shape := ⟨2, ![1, 384]⟩
abbrev S1 : Shape := ⟨1, ![1]⟩
abbrev S128x128 : Shape := ⟨2, ![128, 128]⟩
abbrev S384x128 : Shape := ⟨2, ![384, 128]⟩
abbrev S512x128 : Shape := ⟨2, ![512, 128]⟩
abbrev S512x384 : Shape := ⟨2, ![512, 384]⟩
abbrev S128 : Shape := ⟨1, ![128]⟩
abbrev S128x1 : Shape := ⟨2, ![128, 1]⟩

abbrev nBuf : Space → Nat
  | .hbm => 36
  | .vmem => 17
  | .smem => 3
  | _ => 0

abbrev bufTy : (tb : Table) → Fin (tcTables nBuf tb) → BufTy
  | .hbm, ⟨0, _⟩ => ⟨S8x2048x6144, .f32⟩
  | .hbm, ⟨1, _⟩ => ⟨S1x16384x6144, .f32⟩
  | .hbm, ⟨2, _⟩ => ⟨S32, .f32⟩
  | .hbm, ⟨3, _⟩ => ⟨S128x384, .f32⟩
  | .hbm, ⟨4, _⟩ => ⟨S128x384, .i1⟩
  | .hbm, ⟨5, _⟩ => ⟨S16384x6144, .f32⟩
  | .hbm, ⟨6, _⟩ => ⟨S16384x6144, .f32⟩
  | .hbm, ⟨7, _⟩ => ⟨S32768x6144, .f32⟩
  | .hbm, ⟨8, _⟩ => ⟨S32768x6144, .bf16⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S32, .f32⟩
  | .hbm, ⟨23, _⟩ => ⟨S32x1x1, .f32⟩
  | .hbm, ⟨24, _⟩ => ⟨S32x1x1, .f32⟩
  | .hbm, ⟨25, _⟩ => ⟨S1x128x384, .f32⟩
  | .hbm, ⟨26, _⟩ => ⟨S32x128x384, .f32⟩
  | .hbm, ⟨27, _⟩ => ⟨S32x128x384, .f32⟩
  | .hbm, ⟨28, _⟩ => ⟨S32x128x384, .f32⟩
  | .hbm, ⟨29, _⟩ => ⟨S1x128x384, .i1⟩
  | .hbm, ⟨30, _⟩ => ⟨S_, .f32⟩
  | .hbm, ⟨31, _⟩ => ⟨S_, .f32⟩
  | .hbm, ⟨32, _⟩ => ⟨S32x128x384, .i1⟩
  | .hbm, ⟨33, _⟩ => ⟨S32x128x384, .f32⟩
  | .hbm, ⟨34, _⟩ => ⟨S32x128x384, .f32⟩
  | .hbm, ⟨35, _⟩ => ⟨S32768x4096, .bf16⟩
  | .local _ .vmem, ⟨0, _⟩ => ⟨S128x4096, .bf16⟩
  | .local _ .vmem, ⟨1, _⟩ => ⟨S128x4096, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S32x128x384, .f32⟩
  | .local _ .vmem, ⟨15, _⟩ => ⟨S128x4096, .bf16⟩
  | .local _ .vmem, ⟨16, _⟩ => ⟨S128x4096, .bf16⟩
  | .local _ .smem, ⟨0, _⟩ => ⟨S256, .i32⟩
  | .local _ .smem, ⟨1, _⟩ => ⟨S256, .i32⟩
  | .local _ .smem, ⟨2, _⟩ => ⟨S32, .f32⟩
  | _, _ => ⟨S8x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_v8 : Ref sig .tc := ⟨.hbm, 15, rfl⟩
abbrev main_cst_4 : Ref sig .tc := ⟨.hbm, 16, rfl⟩
abbrev main_v9 : Ref sig .tc := ⟨.hbm, 17, rfl⟩
abbrev main_v10 : Ref sig .tc := ⟨.hbm, 18, rfl⟩
abbrev main_cst_5 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.smem, 0, rfl⟩
abbrev main_c_0 : Ref sig .tc := ⟨.smem, 1, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![256], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v1 : Index := Scalar.indexCast arg0
  ![v1.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c_m1_i32 : BitVec 32 := 4294967295#32
  let v0 : BitVec 32 := Scalar.addi arg0 c_m1_i32
  let c0_i32 : BitVec 32 := 0#32
  let c255_i32 : BitVec 32 := 255#32
  let v1 : BitVec 32 := Scalar.maxsi c0_i32 v0
  let v2 : BitVec 32 := Scalar.minsi c255_i32 v1
  let c4_i32 : BitVec 32 := 4#32
  let c0_i32_0 : BitVec 32 := 0#32
  ![v2.toNat, c4_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c255_i32 : BitVec 32 := 255#32
  let v1 : BitVec 32 := Scalar.maxsi c0_i32_0 v0
  let v2 : BitVec 32 := Scalar.minsi c255_i32 v1
  let c4_i32 : BitVec 32 := 4#32
  let c0_i32_1 : BitVec 32 := 0#32
  ![v2.toNat, c4_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c255_i32 : BitVec 32 := 255#32
  let v1 : BitVec 32 := Scalar.maxsi c0_i32 v0
  let v2 : BitVec 32 := Scalar.minsi c255_i32 v1
  let c4_i32 : BitVec 32 := 4#32
  let c0_i32_0 : BitVec 32 := 0#32
  ![v2.toNat, c4_i32.toNat]

def cc0_transform_5 (i : grid0.Coords) : Fin 2 → Nat :=
  let arg0 : BitVec 32 := BitVec.ofNat 32 (i 0).val
  let c_m1_i32 : BitVec 32 := 4294967295#32
  let v0 : BitVec 32 := Scalar.addi arg0 c_m1_i32
  let c0_i32 : BitVec 32 := 0#32
  let c255_i32 : BitVec 32 := 255#32
  let v1 : BitVec 32 := Scalar.maxsi c0_i32 v0
  let v2 : BitVec 32 := Scalar.minsi c255_i32 v1
  let c5_i32 : BitVec 32 := 5#32
  let c0_i32_0 : BitVec 32 := 0#32
  ![v2.toNat, c5_i32.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c255_i32 : BitVec 32 := 255#32
  let v1 : BitVec 32 := Scalar.maxsi c0_i32_0 v0
  let v2 : BitVec 32 := Scalar.minsi c255_i32 v1
  let c5_i32 : BitVec 32 := 5#32
  let c0_i32_1 : BitVec 32 := 0#32
  ![v2.toNat, c5_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c255_i32 : BitVec 32 := 255#32
  let v1 : BitVec 32 := Scalar.maxsi c0_i32 v0
  let v2 : BitVec 32 := Scalar.minsi c255_i32 v1
  let c5_i32 : BitVec 32 := 5#32
  let c0_i32_0 : BitVec 32 := 0#32
  ![v2.toNat, c5_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x128x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S8x2048x6144 : Shape := ⟨3, ![8, 2048, 6144]⟩
abbrev S1x16384x6144 : Shape := ⟨3, ![1, 16384, 6144]⟩
abbrev S32 : Shape := ⟨1, ![32]⟩
abbrev S_ : Shape := ⟨0, ![]⟩
abbrev S8x4 : Shape := ⟨2, ![8, 4]⟩
abbrev S8x4x1x1 : Shape := ⟨4, ![8, 4, 1, 1]⟩
abbrev S384 : Shape := ⟨1, ![384]⟩
abbrev S1x384 : Shape := ⟨2, ![1, 384]⟩
abbrev S128 : Shape := ⟨1, ![128]⟩
abbrev S128x1 : Shape := ⟨2, ![128, 1]⟩
abbrev S128x384 : Shape := ⟨2, ![128, 384]⟩
abbrev S1x1x128x384 : Shape := ⟨4, ![1, 1, 128, 384]⟩
abbrev S8x4x128x384 : Shape := ⟨4, ![8, 4, 128, 384]⟩
abbrev S8x2048x4096 : Shape := ⟨3, ![8, 2048, 4096]⟩
abbrev S8x16x128x8x4x128 : Shape := ⟨6, ![8, 16, 128, 8, 4, 128]⟩
abbrev S8x2048x1024 : Shape := ⟨3, ![8, 2048, 1024]⟩
abbrev S8x2048x8x128 : Shape := ⟨4, ![8, 2048, 8, 128]⟩
abbrev S8x2304x8x128 : Shape := ⟨4, ![8, 2304, 8, 128]⟩
abbrev S8x18x128x8x128 : Shape := ⟨5, ![8, 18, 128, 8, 128]⟩
abbrev S8x16x128x8x128 : Shape := ⟨5, ![8, 16, 128, 8, 128]⟩
abbrev S8x16x384x8x128 : Shape := ⟨5, ![8, 16, 384, 8, 128]⟩
abbrev S8x16x8x384x128x4 : Shape := ⟨6, ![8, 16, 8, 384, 128, 4]⟩
abbrev S8x16x8x4x128x384 : Shape := ⟨6, ![8, 16, 8, 4, 128, 384]⟩
abbrev S16 : Shape := ⟨1, ![16]⟩
abbrev S16x1 : Shape := ⟨2, ![16, 1]⟩
abbrev S16x384 : Shape := ⟨2, ![16, 384]⟩
abbrev S1x128x384 : Shape := ⟨3, ![1, 128, 384]⟩
abbrev S16x1x384 : Shape := ⟨3, ![16, 1, 384]⟩
abbrev S16x128x384 : Shape := ⟨3, ![16, 128, 384]⟩
abbrev S1x16x1x1x128x384 : Shape := ⟨6, ![1, 16, 1, 1, 128, 384]⟩
abbrev S1x1x8x4x128x384 : Shape := ⟨6, ![1, 1, 8, 4, 128, 384]⟩
abbrev S1x1x8x4x1x1 : Shape := ⟨6, ![1, 1, 8, 4, 1, 1]⟩
abbrev S8x16x8x4x128x1 : Shape := ⟨6, ![8, 16, 8, 4, 128, 1]⟩
abbrev S8x16x8x4x128x385 : Shape := ⟨6, ![8, 16, 8, 4, 128, 385]⟩
abbrev S8x16x8x4x128 : Shape := ⟨5, ![8, 16, 8, 4, 128]⟩
abbrev S8x16x8x128x4x128 : Shape := ⟨6, ![8, 16, 8, 128, 4, 128]⟩
abbrev S16384x4096 : Shape := ⟨2, ![16384, 4096]⟩
abbrev S1x16384x4096 : Shape := ⟨3, ![1, 16384, 4096]⟩
abbrev S1x128x128x8x4x128 : Shape := ⟨6, ![1, 128, 128, 8, 4, 128]⟩
abbrev S1x16384x1024 : Shape := ⟨3, ![1, 16384, 1024]⟩
abbrev S1x16384x8x128 : Shape := ⟨4, ![1, 16384, 8, 128]⟩
abbrev S1x16640x8x128 : Shape := ⟨4, ![1, 16640, 8, 128]⟩
abbrev S1x130x128x8x128 : Shape := ⟨5, ![1, 130, 128, 8, 128]⟩
abbrev S1x128x128x8x128 : Shape := ⟨5, ![1, 128, 128, 8, 128]⟩
abbrev S1x128x384x8x128 : Shape := ⟨5, ![1, 128, 384, 8, 128]⟩
abbrev S1x128x8x384x128x4 : Shape := ⟨6, ![1, 128, 8, 384, 128, 4]⟩
abbrev S1x128x8x4x128x384 : Shape := ⟨6, ![1, 128, 8, 4, 128, 384]⟩
abbrev S128x1x384 : Shape := ⟨3, ![128, 1, 384]⟩
abbrev S128x128x384 : Shape := ⟨3, ![128, 128, 384]⟩
abbrev S1x128x1x1x128x384 : Shape := ⟨6, ![1, 128, 1, 1, 128, 384]⟩
abbrev S1x128x8x4x128x1 : Shape := ⟨6, ![1, 128, 8, 4, 128, 1]⟩
abbrev S1x128x8x4x128x385 : Shape := ⟨6, ![1, 128, 8, 4, 128, 385]⟩
abbrev S1x128x8x4x128 : Shape := ⟨5, ![1, 128, 8, 4, 128]⟩
abbrev S1x128x8x128x4x128 : Shape := ⟨6, ![1, 128, 8, 128, 4, 128]⟩
abbrev S32768x4096 : Shape := ⟨2, ![32768, 4096]⟩

abbrev nBuf : Space → Nat
  | .hbm => 234
  | .vmem => 0
  | .smem => 0
  | _ => 0

abbrev hbmTy0_0 (i : Nat) : BufTy := match i % 128 with
  | 0 => ⟨S8x2048x6144, .f32⟩
  | 1 => ⟨S1x16384x6144, .f32⟩
  | 2 => ⟨S32, .f32⟩
  | 3 => ⟨S32, .f32⟩
  | 4 => ⟨S_, .f32⟩
  | 5 => ⟨S32, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S32, .f32⟩
  | 17 => ⟨S8x4, .f32⟩
  | 18 => ⟨S8x4x1x1, .f32⟩
  | 19 => ⟨S8x4x1x1, .f32⟩
  | 20 => ⟨S384, .i32⟩
  | 21 => ⟨S1x384, .i32⟩
  | 22 => ⟨S_, .i32⟩
  | 23 => ⟨S1x384, .i32⟩
  | 24 => ⟨S1x384, .i32⟩
  | 25 => ⟨S128, .i32⟩
  | 26 => ⟨S128x1, .i32⟩
  | 27 => ⟨S128x384, .i32⟩
  | 28 => ⟨S128x384, .i32⟩
  | 29 => ⟨S128x384, .i32⟩
  | 30 => ⟨S128x384, .i32⟩
  | 31 => ⟨S128x384, .f32⟩
  | 32 => ⟨S1x1x128x384, .f32⟩
  | 33 => ⟨S8x4x128x384, .f32⟩
  | 34 => ⟨S8x4x128x384, .f32⟩
  | 35 => ⟨S8x4x128x384, .f32⟩
  | 36 => ⟨S8x2048x4096, .f32⟩
  | 37 => ⟨S8x16x128x8x4x128, .f32⟩
  | 38 => ⟨S8x2048x1024, .f32⟩
  | 39 => ⟨S8x2048x8x128, .f32⟩
  | 40 => ⟨S8x2048x1024, .f32⟩
  | 41 => ⟨S8x2048x8x128, .f32⟩
  | 42 => ⟨S_, .i32⟩
  | 43 => ⟨S_, .f32⟩
  | 44 => ⟨S8x2304x8x128, .f32⟩
  | 45 => ⟨S8x18x128x8x128, .f32⟩
  | 46 => ⟨S8x16x128x8x128, .f32⟩
  | 47 => ⟨S8x16x128x8x128, .f32⟩
  | 48 => ⟨S8x16x128x8x128, .f32⟩
  | 49 => ⟨S8x16x384x8x128, .f32⟩
  | 50 => ⟨S_, .i32⟩
  | 51 => ⟨S_, .f32⟩
  | 52 => ⟨S8x2304x8x128, .f32⟩
  | 53 => ⟨S8x18x128x8x128, .f32⟩
  | 54 => ⟨S8x16x128x8x128, .f32⟩
  | 55 => ⟨S8x16x128x8x128, .f32⟩
  | 56 => ⟨S8x16x128x8x128, .f32⟩
  | 57 => ⟨S8x16x384x8x128, .f32⟩
  | 58 => ⟨S8x16x8x384x128x4, .f32⟩
  | 59 => ⟨S8x16x8x4x128x384, .f32⟩
  | 60 => ⟨S_, .f32⟩
  | 61 => ⟨S8x16x8x4x128x384, .f32⟩
  | 62 => ⟨S8x16x8x4x128x384, .f32⟩
  | 63 => ⟨S16, .i32⟩
  | 64 => ⟨S16x1, .i32⟩
  | 65 => ⟨S_, .i32⟩
  | 66 => ⟨S16x1, .i32⟩
  | 67 => ⟨S16x1, .i32⟩
  | 68 => ⟨S_, .i32⟩
  | 69 => ⟨S16x1, .i32⟩
  | 70 => ⟨S16x1, .i32⟩
  | 71 => ⟨S384, .i32⟩
  | 72 => ⟨S1x384, .i32⟩
  | 73 => ⟨S16x384, .i32⟩
  | 74 => ⟨S16x384, .i32⟩
  | 75 => ⟨S16x384, .i32⟩
  | 76 => ⟨S384, .i32⟩
  | 77 => ⟨S1x384, .i32⟩
  | 78 => ⟨S_, .i32⟩
  | 79 => ⟨S1x384, .i32⟩
  | 80 => ⟨S1x384, .i32⟩
  | 81 => ⟨S128, .i32⟩
  | 82 => ⟨S128x1, .i32⟩
  | 83 => ⟨S128x384, .i32⟩
  | 84 => ⟨S128x384, .i32⟩
  | 85 => ⟨S128x384, .i32⟩
  | 86 => ⟨S128x384, .i32⟩
  | 87 => ⟨S_, .i32⟩
  | 88 => ⟨S128x384, .i32⟩
  | 89 => ⟨S128x384, .i1⟩
  | 90 => ⟨S1x128x384, .i1⟩
  | 91 => ⟨S_, .i32⟩
  | 92 => ⟨S16x384, .i32⟩
  | 93 => ⟨S16x384, .i1⟩
  | 94 => ⟨S_, .i32⟩
  | 95 => ⟨S16x384, .i32⟩
  | 96 => ⟨S16x384, .i1⟩
  | 97 => ⟨S16x384, .i1⟩
  | 98 => ⟨S16x1x384, .i1⟩
  | 99 => ⟨S16x128x384, .i1⟩
  | 100 => ⟨S16x128x384, .i1⟩
  | 101 => ⟨S16x128x384, .i1⟩
  | 102 => ⟨S1x16x1x1x128x384, .i1⟩
  | 103 => ⟨S1x1x8x4x128x384, .f32⟩
  | 104 => ⟨S8x16x8x4x128x384, .f32⟩
  | 105 => ⟨S8x16x8x4x128x384, .f32⟩
  | 106 => ⟨S_, .f32⟩
  | 107 => ⟨S_, .f32⟩
  | 108 => ⟨S8x16x8x4x128x384, .i1⟩
  | 109 => ⟨S8x16x8x4x128x384, .f32⟩
  | 110 => ⟨S8x16x8x4x128x384, .f32⟩
  | 111 => ⟨S8x4, .f32⟩
  | 112 => ⟨S1x1x8x4x1x1, .f32⟩
  | 113 => ⟨S8x16x8x4x128x1, .f32⟩
  | 114 => ⟨S8x16x8x4x128x385, .f32⟩
  | 115 => ⟨S_, .f32⟩
  | 116 => ⟨S8x16x8x4x128, .f32⟩
  | 117 => ⟨S_, .f32⟩
  | 118 => ⟨S8x16x8x4x128, .f32⟩
  | 119 => ⟨S8x16x8x4x128, .f32⟩
  | 120 => ⟨S8x16x8x4x128x1, .f32⟩
  | 121 => ⟨S8x16x8x4x128x385, .f32⟩
  | 122 => ⟨S8x16x8x4x128x385, .f32⟩
  | 123 => ⟨S8x16x8x4x128x385, .f32⟩
  | 124 => ⟨S_, .f32⟩
  | 125 => ⟨S8x16x8x4x128, .f32⟩
  | 126 => ⟨S8x16x8x4x128x1, .f32⟩
  | 127 => ⟨S8x16x8x4x128x385, .f32⟩
  | _ => ⟨S8x2048x6144, .f32⟩

abbrev hbmTy0_1 (i : Nat) : BufTy := match i % 128 with
  | 0 => ⟨S8x16x8x4x128x385, .f32⟩
  | 1 => ⟨S8x16x8x4x128x384, .f32⟩
  | 2 => ⟨S8x16x8x128x4x128, .f32⟩
  | 3 => ⟨S8x16x128x8x4x128, .f32⟩
  | 4 => ⟨S8x2048x4096, .f32⟩
  | 5 => ⟨S16384x4096, .f32⟩
  | 6 => ⟨S1x16384x4096, .f32⟩
  | 7 => ⟨S1x128x128x8x4x128, .f32⟩
  | 8 => ⟨S1x16384x1024, .f32⟩
  | 9 => ⟨S1x16384x8x128, .f32⟩
  | 10 => ⟨S1x16384x1024, .f32⟩
  | 11 => ⟨S1x16384x8x128, .f32⟩
  | 12 => ⟨S_, .i32⟩
  | 13 => ⟨S_, .f32⟩
  | 14 => ⟨S1x16640x8x128, .f32⟩
  | 15 => ⟨S1x130x128x8x128, .f32⟩
  | 16 => ⟨S1x128x128x8x128, .f32⟩
  | 17 => ⟨S1x128x128x8x128, .f32⟩
  | 18 => ⟨S1x128x128x8x128, .f32⟩
  | 19 => ⟨S1x128x384x8x128, .f32⟩
  | 20 => ⟨S_, .i32⟩
  | 21 => ⟨S_, .f32⟩
  | 22 => ⟨S1x16640x8x128, .f32⟩
  | 23 => ⟨S1x130x128x8x128, .f32⟩
  | 24 => ⟨S1x128x128x8x128, .f32⟩
  | 25 => ⟨S1x128x128x8x128, .f32⟩
  | 26 => ⟨S1x128x128x8x128, .f32⟩
  | 27 => ⟨S1x128x384x8x128, .f32⟩
  | 28 => ⟨S1x128x8x384x128x4, .f32⟩
  | 29 => ⟨S1x128x8x4x128x384, .f32⟩
  | 30 => ⟨S_, .f32⟩
  | 31 => ⟨S1x128x8x4x128x384, .f32⟩
  | 32 => ⟨S1x128x8x4x128x384, .f32⟩
  | 33 => ⟨S128, .i32⟩
  | 34 => ⟨S128x1, .i32⟩
  | 35 => ⟨S_, .i32⟩
  | 36 => ⟨S128x1, .i32⟩
  | 37 => ⟨S128x1, .i32⟩
  | 38 => ⟨S_, .i32⟩
  | 39 => ⟨S128x1, .i32⟩
  | 40 => ⟨S128x1, .i32⟩
  | 41 => ⟨S384, .i32⟩
  | 42 => ⟨S1x384, .i32⟩
  | 43 => ⟨S128x384, .i32⟩
  | 44 => ⟨S128x384, .i32⟩
  | 45 => ⟨S128x384, .i32⟩
  | 46 => ⟨S384, .i32⟩
  | 47 => ⟨S1x384, .i32⟩
  | 48 => ⟨S_, .i32⟩
  | 49 => ⟨S1x384, .i32⟩
  | 50 => ⟨S1x384, .i32⟩
  | 51 => ⟨S128, .i32⟩
  | 52 => ⟨S128x1, .i32⟩
  | 53 => ⟨S128x384, .i32⟩
  | 54 => ⟨S128x384, .i32⟩
  | 55 => ⟨S128x384, .i32⟩
  | 56 => ⟨S128x384, .i32⟩
  | 57 => ⟨S_, .i32⟩
  | 58 => ⟨S128x384, .i32⟩
  | 59 => ⟨S128x384, .i1⟩
  | 60 => ⟨S1x128x384, .i1⟩
  | 61 => ⟨S_, .i32⟩
  | 62 => ⟨S128x384, .i32⟩
  | 63 => ⟨S128x384, .i1⟩
  | 64 => ⟨S_, .i32⟩
  | 65 => ⟨S128x384, .i32⟩
  | 66 => ⟨S128x384, .i1⟩
  | 67 => ⟨S128x384, .i1⟩
  | 68 => ⟨S128x1x384, .i1⟩
  | 69 => ⟨S128x128x384, .i1⟩
  | 70 => ⟨S128x128x384, .i1⟩
  | 71 => ⟨S128x128x384, .i1⟩
  | 72 => ⟨S1x128x1x1x128x384, .i1⟩
  | 73 => ⟨S1x1x8x4x128x384, .f32⟩
  | 74 => ⟨S1x128x8x4x128x384, .f32⟩
  | 75 => ⟨S1x128x8x4x128x384, .f32⟩
  | 76 => ⟨S_, .f32⟩
  | 77 => ⟨S_, .f32⟩
  | 78 => ⟨S1x128x8x4x128x384, .i1⟩
  | 79 => ⟨S1x128x8x4x128x384, .f32⟩
  | 80 => ⟨S1x128x8x4x128x384, .f32⟩
  | 81 => ⟨S8x4, .f32⟩
  | 82 => ⟨S1x1x8x4x1x1, .f32⟩
  | 83 => ⟨S1x128x8x4x128x1, .f32⟩
  | 84 => ⟨S1x128x8x4x128x385, .f32⟩
  | 85 => ⟨S_, .f32⟩
  | 86 => ⟨S1x128x8x4x128, .f32⟩
  | 87 => ⟨S_, .f32⟩
  | 88 => ⟨S1x128x8x4x128, .f32⟩
  | 89 => ⟨S1x128x8x4x128, .f32⟩
  | 90 => ⟨S1x128x8x4x128x1, .f32⟩
  | 91 => ⟨S1x128x8x4x128x385, .f32⟩
  | 92 => ⟨S1x128x8x4x128x385, .f32⟩
  | 93 => ⟨S1x128x8x4x128x385, .f32⟩
  | 94 => ⟨S_, .f32⟩
  | 95 => ⟨S1x128x8x4x128, .f32⟩
  | 96 => ⟨S1x128x8x4x128x1, .f32⟩
  | 97 => ⟨S1x128x8x4x128x385, .f32⟩
  | 98 => ⟨S1x128x8x4x128x385, .f32⟩
  | 99 => ⟨S1x128x8x4x128x384, .f32⟩
  | 100 => ⟨S1x128x8x128x4x128, .f32⟩
  | 101 => ⟨S1x128x128x8x4x128, .f32⟩
  | 102 => ⟨S1x16384x4096, .f32⟩
  | 103 => ⟨S16384x4096, .f32⟩
  | 104 => ⟨S32768x4096, .f32⟩
  | 105 => ⟨S32768x4096, .bf16⟩
  | _ => ⟨S8x2048x6144, .f32⟩

abbrev hbmTy (i : Nat) : BufTy := match i / 128 with
  | 0 => hbmTy0_0 i
  | 1 => hbmTy0_1 i
  | _ => ⟨S8x2048x6144, .f32⟩

abbrev bufTy : (tb : Table) → Fin (tcTables nBuf tb) → BufTy
  | .hbm, ⟨i, _⟩ => hbmTy i
  | _, _ => ⟨S8x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c_3 : Ref sig .tc := ⟨.hbm, 42, rfl⟩
abbrev main_call0_v0 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c_4 : Ref sig .tc := ⟨.hbm, 50, rfl⟩
abbrev main_call1_v0 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_6 : Ref sig .tc := ⟨.hbm, 65, rfl⟩
abbrev main_v52 : Ref sig .tc := ⟨.hbm, 66, rfl⟩
abbrev main_v53 : Ref sig .tc := ⟨.hbm, 67, rfl⟩
abbrev main_c_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_c_8 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_c_9 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_c_10 : Ref sig .tc := ⟨.hbm, 91, rfl⟩
abbrev main_v74 : Ref sig .tc := ⟨.hbm, 92, rfl⟩
abbrev main_v75 : Ref sig .tc := ⟨.hbm, 93, rfl⟩
abbrev main_c_11 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_12 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_13 : Ref sig .tc := ⟨.hbm, 115, rfl⟩
abbrev main_v92 : Ref sig .tc := ⟨.hbm, 116, rfl⟩
abbrev main_cst_14 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_15 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_c_16 : Ref sig .tc := ⟨.hbm, 140, rfl⟩
abbrev main_call3_v0 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_c_17 : Ref sig .tc := ⟨.hbm, 148, rfl⟩
abbrev main_call4_v0 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_cst_18 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_c_19 : Ref sig .tc := ⟨.hbm, 163, rfl⟩
abbrev main_v132 : Ref sig .tc := ⟨.hbm, 164, rfl⟩
abbrev main_v133 : Ref sig .tc := ⟨.hbm, 165, rfl⟩
abbrev main_c_20 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_c_21 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_c_22 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_c_23 : Ref sig .tc := ⟨.hbm, 189, rfl⟩
abbrev main_v154 : Ref sig .tc := ⟨.hbm, 190, rfl⟩
abbrev main_v155 : Ref sig .tc := ⟨.hbm, 191, rfl⟩
abbrev main_c_24 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_cst_25 : Ref sig .tc := ⟨.hbm, 204, rfl⟩
abbrev main_call5_v0 : Ref sig .tc := ⟨.hbm, 205, rfl⟩
abbrev main_call5_v1 : Ref sig .tc := ⟨.hbm, 206, rfl⟩
abbrev main_call5_v2 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_cst_26 : Ref sig .tc := ⟨.hbm, 213, rfl⟩
abbrev main_v172 : Ref sig .tc := ⟨.hbm, 214, rfl⟩
abbrev main_cst_27 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_cst_28 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩

abbrev nD : Nat := 1
abbrev τ : Topo := Topo.v7x

variable {F : FTy → Type} [FloatOps F]

def κ : String → Option EReal := fun
  | "mask" => some ⊥
  | _ => none
-- ==== Hidden.lean ====
abbrev S16x2048x4096 : Shape := ⟨3, ![16, 2048, 4096]⟩
abbrev S2x16x4096x4096 : Shape := ⟨4, ![2, 16, 4096, 4096]⟩
abbrev S32x2048x4096 : Shape := ⟨3, ![32, 2048, 4096]⟩
abbrev S32x4096x4096 : Shape := ⟨3, ![32, 4096, 4096]⟩
abbrev S1x2048x4096 : Shape := ⟨3, ![1, 2048, 4096]⟩
abbrev S1x4096x256 : Shape := ⟨3, ![1, 4096, 256]⟩
abbrev S1x2048x256 : Shape := ⟨3, ![1, 2048, 256]⟩
abbrev S2048x4096 : Shape := ⟨2, ![2048, 4096]⟩
abbrev S4096x256 : Shape := ⟨2, ![4096, 256]⟩
abbrev S2048x256 : Shape := ⟨2, ![2048, 256]⟩

abbrev nBuf : Space → Nat
  | .hbm => 9
  | .vmem => 8
  | .smem => 0
  | _ => 0

abbrev bufTy : (tb : Table) → Fin (tcTables nBuf tb) → BufTy
  | .hbm, ⟨0, _⟩ => ⟨S16x2048x4096, .f32⟩
  | .hbm, ⟨1, _⟩ => ⟨S16x2048x4096, .f32⟩
  | .hbm, ⟨2, _⟩ => ⟨S2x16x4096x4096, .f32⟩
  | .hbm, ⟨3, _⟩ => ⟨S2x16x4096x4096, .f32⟩
  | .hbm, ⟨4, _⟩ => ⟨S32x2048x4096, .f32⟩
  | .hbm, ⟨5, _⟩ => ⟨S32x2048x4096, .bf16⟩
  | .hbm, ⟨6, _⟩ => ⟨S32x4096x4096, .f32⟩
  | .hbm, ⟨7, _⟩ => ⟨S32x4096x4096, .f32⟩
  | .hbm, ⟨8, _⟩ => ⟨S32x2048x4096, .bf16⟩
  | .local _ .vmem, ⟨0, _⟩ => ⟨S1x2048x4096, .bf16⟩
  | .local _ .vmem, ⟨1, _⟩ => ⟨S1x2048x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x2048x256, .bf16⟩
  | .local _ .vmem, ⟨7, _⟩ => ⟨S1x2048x256, .bf16⟩
  | _, _ => ⟨S16x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 1, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.addi c16_i32_3 v9
  let c0_i32_4 : BitVec 32 := 0#32
  let c0_i32_5 : BitVec 32 := 0#32
  ![v10.toNat, c0_i32_4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.addi c16_i32_3 v9
  let c0_i32_4 : BitVec 32 := 0#32
  let c0_i32_5 : BitVec 32 := 0#32
  ![v10.toNat, c0_i32_4.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== HiddenReferenceIdeal.lean ====
abbrev S16x2048x4096 : Shape := ⟨3, ![16, 2048, 4096]⟩
abbrev S2x16x4096x4096 : Shape := ⟨4, ![2, 16, 4096, 4096]⟩
abbrev S1x16x4096x4096 : Shape := ⟨4, ![1, 16, 4096, 4096]⟩
abbrev S16x4096x4096 : Shape := ⟨3, ![16, 4096, 4096]⟩
abbrev S_ : Shape := ⟨0, ![]⟩
abbrev S32x2048x4096 : Shape := ⟨3, ![32, 2048, 4096]⟩

abbrev nBuf : Space → Nat
  | .hbm => 38
  | .vmem => 0
  | .smem => 0
  | _ => 0

abbrev bufTy : (tb : Table) → Fin (tcTables nBuf tb) → BufTy
  | .hbm, ⟨0, _⟩ => ⟨S16x2048x4096, .f32⟩
  | .hbm, ⟨1, _⟩ => ⟨S16x2048x4096, .f32⟩
  | .hbm, ⟨2, _⟩ => ⟨S2x16x4096x4096, .f32⟩
  | .hbm, ⟨3, _⟩ => ⟨S2x16x4096x4096, .f32⟩
  | .hbm, ⟨4, _⟩ => ⟨S1x16x4096x4096, .f32⟩
  | .hbm, ⟨5, _⟩ => ⟨S16x4096x4096, .f32⟩
  | .hbm, ⟨6, _⟩ => ⟨S1x16x4096x4096, .f32⟩
  | .hbm, ⟨7, _⟩ => ⟨S16x4096x4096, .f32⟩
  | .hbm, ⟨8, _⟩ => ⟨S16x2048x4096, .f32⟩
  | .hbm, ⟨9, _⟩ => ⟨S16x2048x4096, .f32⟩
  | .hbm, ⟨10, _⟩ => ⟨S16x2048x4096, .f32⟩
  | .hbm, ⟨11, _⟩ => ⟨S_, .f32⟩
  | .hbm, ⟨12, _⟩ => ⟨S16x2048x4096, .f32⟩
  | .hbm, ⟨13, _⟩ => ⟨S16x2048x4096, .f32⟩
  | .hbm, ⟨14, _⟩ => ⟨S_, .f32⟩
  | .hbm, ⟨15, _⟩ => ⟨S16x2048x4096, .f32⟩
  | .hbm, ⟨16, _⟩ => ⟨S16x2048x4096, .f32⟩
  | .hbm, ⟨17, _⟩ => ⟨S16x2048x4096, .f32⟩
  | .hbm, ⟨18, _⟩ => ⟨S16x2048x4096, .f32⟩
  | .hbm, ⟨19, _⟩ => ⟨S16x2048x4096, .f32⟩
  | .hbm, ⟨20, _⟩ => ⟨S1x16x4096x4096, .f32⟩
  | .hbm, ⟨21, _⟩ => ⟨S16x4096x4096, .f32⟩
  | .hbm, ⟨22, _⟩ => ⟨S1x16x4096x4096, .f32⟩
  | .hbm, ⟨23, _⟩ => ⟨S16x4096x4096, .f32⟩
  | .hbm, ⟨24, _⟩ => ⟨S16x2048x4096, .f32⟩
  | .hbm, ⟨25, _⟩ => ⟨S16x2048x4096, .f32⟩
  | .hbm, ⟨26, _⟩ => ⟨S16x2048x4096, .f32⟩
  | .hbm, ⟨27, _⟩ => ⟨S_, .f32⟩
  | .hbm, ⟨28, _⟩ => ⟨S16x2048x4096, .f32⟩
  | .hbm, ⟨29, _⟩ => ⟨S16x2048x4096, .f32⟩
  | .hbm, ⟨30, _⟩ => ⟨S_, .f32⟩
  | .hbm, ⟨31, _⟩ => ⟨S16x2048x4096, .f32⟩
  | .hbm, ⟨32, _⟩ => ⟨S16x2048x4096, .f32⟩
  | .hbm, ⟨33, _⟩ => ⟨S16x2048x4096, .f32⟩
  | .hbm, ⟨34, _⟩ => ⟨S16x2048x4096, .f32⟩
  | .hbm, ⟨35, _⟩ => ⟨S16x2048x4096, .f32⟩
  | .hbm, ⟨36, _⟩ => ⟨S32x2048x4096, .f32⟩
  | .hbm, ⟨37, _⟩ => ⟨S32x2048x4096, .bf16⟩
  | _, _ => ⟨S16x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩

abbrev nD : Nat := 1
abbrev τ : Topo := Topo.v7x

variable {F : FTy → Type} [FloatOps F]
-- ==== RetIn.lean ====
abbrev S32768x4096 : Shape := ⟨2, ![32768, 4096]⟩
abbrev S1x4096x24576 : Shape := ⟨3, ![1, 4096, 24576]⟩
abbrev S4096x24576 : Shape := ⟨2, ![4096, 24576]⟩
abbrev S1x32768x4096 : Shape := ⟨3, ![1, 32768, 4096]⟩
abbrev S1x32768x24576 : Shape := ⟨3, ![1, 32768, 24576]⟩
abbrev S1x2048x4096 : Shape := ⟨3, ![1, 2048, 4096]⟩
abbrev S1x4096x512 : Shape := ⟨3, ![1, 4096, 512]⟩
abbrev S1x2048x512 : Shape := ⟨3, ![1, 2048, 512]⟩
abbrev S2048x4096 : Shape := ⟨2, ![2048, 4096]⟩
abbrev S4096x512 : Shape := ⟨2, ![4096, 512]⟩
abbrev S2048x512 : Shape := ⟨2, ![2048, 512]⟩

abbrev nBuf : Space → Nat
  | .hbm => 8
  | .vmem => 6
  | .smem => 0
  | _ => 0

abbrev bufTy : (tb : Table) → Fin (tcTables nBuf tb) → BufTy
  | .hbm, ⟨0, _⟩ => ⟨S32768x4096, .f32⟩
  | .hbm, ⟨1, _⟩ => ⟨S1x4096x24576, .f32⟩
  | .hbm, ⟨2, _⟩ => ⟨S32768x4096, .bf16⟩
  | .hbm, ⟨3, _⟩ => ⟨S4096x24576, .f32⟩
  | .hbm, ⟨4, _⟩ => ⟨S4096x24576, .bf16⟩
  | .hbm, ⟨5, _⟩ => ⟨S1x32768x4096, .bf16⟩
  | .hbm, ⟨6, _⟩ => ⟨S1x4096x24576, .bf16⟩
  | .hbm, ⟨7, _⟩ => ⟨S1x32768x24576, .bf16⟩
  | .local _ .vmem, ⟨0, _⟩ => ⟨S1x2048x4096, .bf16⟩
  | .local _ .vmem, ⟨1, _⟩ => ⟨S1x2048x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x2048x512, .bf16⟩
  | .local _ .vmem, ⟨5, _⟩ => ⟨S1x2048x512, .bf16⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 16, 48], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== RetInReferenceIdeal.lean ====
abbrev S32768x4096 : Shape := ⟨2, ![32768, 4096]⟩
abbrev S1x4096x24576 : Shape := ⟨3, ![1, 4096, 24576]⟩
abbrev S4096x24576 : Shape := ⟨2, ![4096, 24576]⟩
abbrev S32768x24576 : Shape := ⟨2, ![32768, 24576]⟩
abbrev S1x32768x24576 : Shape := ⟨3, ![1, 32768, 24576]⟩

abbrev nBuf : Space → Nat
  | .hbm => 6
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S1x4096x24576, .f32⟩
  | .hbm, ⟨2, _⟩ => ⟨S4096x24576, .f32⟩
  | .hbm, ⟨3, _⟩ => ⟨S32768x24576, .f32⟩
  | .hbm, ⟨4, _⟩ => ⟨S32768x24576, .bf16⟩
  | .hbm, ⟨5, _⟩ => ⟨S1x32768x24576, .bf16⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S16x2048x4096 : Shape := ⟨3, ![16, 2048, 4096]⟩
abbrev S16x2048 : Shape := ⟨2, ![16, 2048]⟩
abbrev S2x16x4096x4096 : Shape := ⟨4, ![2, 16, 4096, 4096]⟩
abbrev S32x2048x4096 : Shape := ⟨3, ![32, 2048, 4096]⟩
abbrev S32x2048 : Shape := ⟨2, ![32, 2048]⟩
abbrev S32x4096x4096 : Shape := ⟨3, ![32, 4096, 4096]⟩
abbrev S32x2048x1 : Shape := ⟨3, ![32, 2048, 1]⟩
abbrev S1x2048x4096 : Shape := ⟨3, ![1, 2048, 4096]⟩
abbrev S1x4096x256 : Shape := ⟨3, ![1, 4096, 256]⟩
abbrev S1x2048x1 : Shape := ⟨3, ![1, 2048, 1]⟩
abbrev S1x2048x256 : Shape := ⟨3, ![1, 2048, 256]⟩
abbrev S2048x4096 : Shape := ⟨2, ![2048, 4096]⟩
abbrev S4096x256 : Shape := ⟨2, ![4096, 256]⟩
abbrev S2048x256 : Shape := ⟨2, ![2048, 256]⟩
abbrev S2048x1 : Shape := ⟨2, ![2048, 1]⟩

abbrev nBuf : Space → Nat
  | .hbm => 11
  | .vmem => 8
  | .smem => 0
  | _ => 0

abbrev bufTy : (tb : Table) → Fin (tcTables nBuf tb) → BufTy
  | .hbm, ⟨0, _⟩ => ⟨S16x2048x4096, .f32⟩
  | .hbm, ⟨1, _⟩ => ⟨S16x2048x4096, .f32⟩
  | .hbm, ⟨2, _⟩ => ⟨S16x2048, .f32⟩
  | .hbm, ⟨3, _⟩ => ⟨S16x2048, .f32⟩
  | .hbm, ⟨4, _⟩ => ⟨S2x16x4096x4096, .f32⟩
  | .hbm, ⟨5, _⟩ => ⟨S32x2048x4096, .f32⟩
  | .hbm, ⟨6, _⟩ => ⟨S32x2048x4096, .bf16⟩
  | .hbm, ⟨7, _⟩ => ⟨S32x2048, .f32⟩
  | .hbm, ⟨8, _⟩ => ⟨S32x4096x4096, .f32⟩
  | .hbm, ⟨9, _⟩ => ⟨S32x2048x1, .f32⟩
  | .hbm, ⟨10, _⟩ => ⟨S32x2048x4096, .f32⟩
  | .local _ .vmem, ⟨0, _⟩ => ⟨S1x2048x4096, .bf16⟩
  | .local _ .vmem, ⟨1, _⟩ => ⟨S1x2048x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x2048x1, .f32⟩
  | .local _ .vmem, ⟨5, _⟩ => ⟨S1x2048x1, .f32⟩
  | .local _ .vmem, ⟨6, _⟩ => ⟨S1x2048x256, .f32⟩
  | .local _ .vmem, ⟨7, _⟩ => ⟨S1x2048x256, .f32⟩
  | _, _ => ⟨S16x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 1, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.addi c16_i32_3 v9
  let c0_i32_4 : BitVec 32 := 0#32
  let c0_i32_5 : BitVec 32 := 0#32
  ![v10.toNat, c0_i32_4.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== DownReferenceIdeal.lean ====
abbrev S16x2048x4096 : Shape := ⟨3, ![16, 2048, 4096]⟩
abbrev S16x2048 : Shape := ⟨2, ![16, 2048]⟩
abbrev S2x16x4096x4096 : Shape := ⟨4, ![2, 16, 4096, 4096]⟩
abbrev S1x16x4096x4096 : Shape := ⟨4, ![1, 16, 4096, 4096]⟩
abbrev S16x4096x4096 : Shape := ⟨3, ![16, 4096, 4096]⟩
abbrev S16x2048x1 : Shape := ⟨3, ![16, 2048, 1]⟩
abbrev S32x2048x4096 : Shape := ⟨3, ![32, 2048, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16x2048x4096, .f32⟩
  | .hbm, ⟨1, _⟩ => ⟨S16x2048x4096, .f32⟩
  | .hbm, ⟨2, _⟩ => ⟨S16x2048, .f32⟩
  | .hbm, ⟨3, _⟩ => ⟨S16x2048, .f32⟩
  | .hbm, ⟨4, _⟩ => ⟨S2x16x4096x4096, .f32⟩
  | .hbm, ⟨5, _⟩ => ⟨S1x16x4096x4096, .f32⟩
  | .hbm, ⟨6, _⟩ => ⟨S16x4096x4096, .f32⟩
  | .hbm, ⟨7, _⟩ => ⟨S16x2048x4096, .f32⟩
  | .hbm, ⟨8, _⟩ => ⟨S16x2048x1, .f32⟩
  | .hbm, ⟨9, _⟩ => ⟨S16x2048x4096, .f32⟩
  | .hbm, ⟨10, _⟩ => ⟨S16x2048x4096, .f32⟩
  | .hbm, ⟨11, _⟩ => ⟨S1x16x4096x4096, .f32⟩
  | .hbm, ⟨12, _⟩ => ⟨S16x4096x4096, .f32⟩
  | .hbm, ⟨13, _⟩ => ⟨S16x2048x4096, .f32⟩
  | .hbm, ⟨14, _⟩ => ⟨S16x2048x1, .f32⟩
  | .hbm, ⟨15, _⟩ => ⟨S16x2048x4096, .f32⟩
  | .hbm, ⟨16, _⟩ => ⟨S16x2048x4096, .f32⟩
  | .hbm, ⟨17, _⟩ => ⟨S32x2048x4096, .f32⟩
  | _, _ => ⟨S16x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== RetOut.lean ====
abbrev S32768x8192 : Shape := ⟨2, ![32768, 8192]⟩
abbrev S1x8192x4096 : Shape := ⟨3, ![1, 8192, 4096]⟩
abbrev S32768x4096 : Shape := ⟨2, ![32768, 4096]⟩
abbrev S8192x4096 : Shape := ⟨2, ![8192, 4096]⟩
abbrev S1x32768x8192 : Shape := ⟨3, ![1, 32768, 8192]⟩
abbrev S1x32768x4096 : Shape := ⟨3, ![1, 32768, 4096]⟩
abbrev S1x1024x8192 : Shape := ⟨3, ![1, 1024, 8192]⟩
abbrev S1x8192x256 : Shape := ⟨3, ![1, 8192, 256]⟩
abbrev S1x1024x256 : Shape := ⟨3, ![1, 1024, 256]⟩
abbrev S1024x8192 : Shape := ⟨2, ![1024, 8192]⟩
abbrev S8192x256 : Shape := ⟨2, ![8192, 256]⟩
abbrev S1024x256 : Shape := ⟨2, ![1024, 256]⟩

abbrev nBuf : Space → Nat
  | .hbm => 10
  | .vmem => 8
  | .smem => 0
  | _ => 0

abbrev bufTy : (tb : Table) → Fin (tcTables nBuf tb) → BufTy
  | .hbm, ⟨0, _⟩ => ⟨S32768x8192, .f32⟩
  | .hbm, ⟨1, _⟩ => ⟨S1x8192x4096, .f32⟩
  | .hbm, ⟨2, _⟩ => ⟨S32768x4096, .f32⟩
  | .hbm, ⟨3, _⟩ => ⟨S32768x8192, .bf16⟩
  | .hbm, ⟨4, _⟩ => ⟨S8192x4096, .f32⟩
  | .hbm, ⟨5, _⟩ => ⟨S8192x4096, .bf16⟩
  | .hbm, ⟨6, _⟩ => ⟨S1x32768x8192, .bf16⟩
  | .hbm, ⟨7, _⟩ => ⟨S1x8192x4096, .bf16⟩
  | .hbm, ⟨8, _⟩ => ⟨S1x32768x4096, .f32⟩
  | .hbm, ⟨9, _⟩ => ⟨S1x32768x4096, .f32⟩
  | .local _ .vmem, ⟨0, _⟩ => ⟨S1x1024x8192, .bf16⟩
  | .local _ .vmem, ⟨1, _⟩ => ⟨S1x1024x8192, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | _, _ => ⟨S32768x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 32, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== RetOutReferenceIdeal.lean ====
abbrev S32768x8192 : Shape := ⟨2, ![32768, 8192]⟩
abbrev S1x8192x4096 : Shape := ⟨3, ![1, 8192, 4096]⟩
abbrev S32768x4096 : Shape := ⟨2, ![32768, 4096]⟩
abbrev S8192x4096 : Shape := ⟨2, ![8192, 4096]⟩
abbrev S1x32768x4096 : Shape := ⟨3, ![1, 32768, 4096]⟩

abbrev nBuf : Space → Nat
  | .hbm => 7
  | .vmem => 0
  | .smem => 0
  | _ => 0

abbrev bufTy : (tb : Table) → Fin (tcTables nBuf tb) → BufTy
  | .hbm, ⟨0, _⟩ => ⟨S32768x8192, .f32⟩
  | .hbm, ⟨1, _⟩ => ⟨S1x8192x4096, .f32⟩
  | .hbm, ⟨2, _⟩ => ⟨S32768x4096, .f32⟩
  | .hbm, ⟨3, _⟩ => ⟨S8192x4096, .f32⟩
  | .hbm, ⟨4, _⟩ => ⟨S32768x4096, .f32⟩
  | .hbm, ⟨5, _⟩ => ⟨S32768x4096, .f32⟩
  | .hbm, ⟨6, _⟩ => ⟨S1x32768x4096, .f32⟩
  | _, _ => ⟨S32768x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AttnIn.lean ====
abbrev S32768x4096 : Shape := ⟨2, ![32768, 4096]⟩
abbrev S1x4096x6144 : Shape := ⟨3, ![1, 4096, 6144]⟩
abbrev S4096x6144 : Shape := ⟨2, ![4096, 6144]⟩
abbrev S1x32768x4096 : Shape := ⟨3, ![1, 32768, 4096]⟩
abbrev S1x32768x6144 : Shape := ⟨3, ![1, 32768, 6144]⟩
abbrev S1x2048x4096 : Shape := ⟨3, ![1, 2048, 4096]⟩
abbrev S1x4096x512 : Shape := ⟨3, ![1, 4096, 512]⟩
abbrev S1x2048x512 : Shape := ⟨3, ![1, 2048, 512]⟩
abbrev S2048x4096 : Shape := ⟨2, ![2048, 4096]⟩
abbrev S4096x512 : Shape := ⟨2, ![4096, 512]⟩
abbrev S2048x512 : Shape := ⟨2, ![2048, 512]⟩

abbrev nBuf : Space → Nat
  | .hbm => 8
  | .vmem => 6
  | .smem => 0
  | _ => 0

abbrev bufTy : (tb : Table) → Fin (tcTables nBuf tb) → BufTy
  | .hbm, ⟨0, _⟩ => ⟨S32768x4096, .f32⟩
  | .hbm, ⟨1, _⟩ => ⟨S1x4096x6144, .f32⟩
  | .hbm, ⟨2, _⟩ => ⟨S32768x4096, .bf16⟩
  | .hbm, ⟨3, _⟩ => ⟨S4096x6144, .f32⟩
  | .hbm, ⟨4, _⟩ => ⟨S4096x6144, .bf16⟩
  | .hbm, ⟨5, _⟩ => ⟨S1x32768x4096, .bf16⟩
  | .hbm, ⟨6, _⟩ => ⟨S1x4096x6144, .bf16⟩
  | .hbm, ⟨7, _⟩ => ⟨S1x32768x6144, .bf16⟩
  | .local _ .vmem, ⟨0, _⟩ => ⟨S1x2048x4096, .bf16⟩
  | .local _ .vmem, ⟨1, _⟩ => ⟨S1x2048x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x2048x512, .bf16⟩
  | .local _ .vmem, ⟨5, _⟩ => ⟨S1x2048x512, .bf16⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 16, 12], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== AttnInReferenceIdeal.lean ====
abbrev S32768x4096 : Shape := ⟨2, ![32768, 4096]⟩
abbrev S1x4096x6144 : Shape := ⟨3, ![1, 4096, 6144]⟩
abbrev S4096x6144 : Shape := ⟨2, ![4096, 6144]⟩
abbrev S32768x6144 : Shape := ⟨2, ![32768, 6144]⟩
abbrev S1x32768x6144 : Shape := ⟨3, ![1, 32768, 6144]⟩

abbrev nBuf : Space → Nat
  | .hbm => 6
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S1x4096x6144, .f32⟩
  | .hbm, ⟨2, _⟩ => ⟨S4096x6144, .f32⟩
  | .hbm, ⟨3, _⟩ => ⟨S32768x6144, .f32⟩
  | .hbm, ⟨4, _⟩ => ⟨S32768x6144, .bf16⟩
  | .hbm, ⟨5, _⟩ => ⟨S1x32768x6144, .bf16⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AttnOut.lean ====
abbrev S32768x4096 : Shape := ⟨2, ![32768, 4096]⟩
abbrev S1x4096x4096 : Shape := ⟨3, ![1, 4096, 4096]⟩
abbrev S4096x4096 : Shape := ⟨2, ![4096, 4096]⟩
abbrev S1x32768x4096 : Shape := ⟨3, ![1, 32768, 4096]⟩
abbrev S1x1024x4096 : Shape := ⟨3, ![1, 1024, 4096]⟩
abbrev S1x4096x512 : Shape := ⟨3, ![1, 4096, 512]⟩
abbrev S1x1024x512 : Shape := ⟨3, ![1, 1024, 512]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 10
  | .vmem => 8
  | .smem => 0
  | _ => 0

abbrev bufTy : (tb : Table) → Fin (tcTables nBuf tb) → BufTy
  | .hbm, ⟨0, _⟩ => ⟨S32768x4096, .f32⟩
  | .hbm, ⟨1, _⟩ => ⟨S1x4096x4096, .f32⟩
  | .hbm, ⟨2, _⟩ => ⟨S32768x4096, .f32⟩
  | .hbm, ⟨3, _⟩ => ⟨S32768x4096, .bf16⟩
  | .hbm, ⟨4, _⟩ => ⟨S4096x4096, .f32⟩
  | .hbm, ⟨5, _⟩ => ⟨S4096x4096, .bf16⟩
  | .hbm, ⟨6, _⟩ => ⟨S1x32768x4096, .bf16⟩
  | .hbm, ⟨7, _⟩ => ⟨S1x4096x4096, .bf16⟩
  | .hbm, ⟨8, _⟩ => ⟨S1x32768x4096, .f32⟩
  | .hbm, ⟨9, _⟩ => ⟨S1x32768x4096, .f32⟩
  | .local _ .vmem, ⟨0, _⟩ => ⟨S1x1024x4096, .bf16⟩
  | .local _ .vmem, ⟨1, _⟩ => ⟨S1x1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 32, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnOutReferenceIdeal.lean ====
abbrev S32768x4096 : Shape := ⟨2, ![32768, 4096]⟩
abbrev S1x4096x4096 : Shape := ⟨3, ![1, 4096, 4096]⟩
abbrev S4096x4096 : Shape := ⟨2, ![4096, 4096]⟩
abbrev S1x32768x4096 : Shape := ⟨3, ![1, 32768, 4096]⟩

abbrev nBuf : Space → Nat
  | .hbm => 7
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S1x4096x4096, .f32⟩
  | .hbm, ⟨2, _⟩ => ⟨S32768x4096, .f32⟩
  | .hbm, ⟨3, _⟩ => ⟨S4096x4096, .f32⟩
  | .hbm, ⟨4, _⟩ => ⟨S32768x4096, .f32⟩
  | .hbm, ⟨5, _⟩ => ⟨S32768x4096, .f32⟩
  | .hbm, ⟨6, _⟩ => ⟨S1x32768x4096, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Mm.Hidden.lean ====
module

public import proofs.«01_k».proof.Defs
public import proofs.«01_k».proof.Proof.Gen.HiddenIdeal.Value
public import proofs.«01_k».proof.Proof.Gen.HiddenReferenceIdeal.Run
public import Idealize.ShloMosaic.Lib.Pipeline.ValueKit.Point
public import Idealize.ShloMosaic.Lib.Claim

/-! The value of the experts' gated hidden layer: every block the kernel writes is the same block of the reference's result. -/

@[expose] public section

set_option maxRecDepth 16384

noncomputable section

namespace Cert.HiddenReferenceIdeal.Mm

open Cert.HiddenReferenceIdeal Cert.HiddenReferenceIdeal.Gen Idealize.ShloMosaic

/-- The reference's result as a function of its arguments. -/
def ref (a0 : FVec Ideal S16x2048x4096 .f32) (a1 : FVec Ideal S16x2048x4096 .f32) (a2 : FVec Ideal S2x16x4096x4096 .f32) (a3 : FVec Ideal S2x16x4096x4096 .f32) : FVec Ideal S32x2048x4096 .bf16 :=
  truncf .bf16 (concatenate S32x2048x4096 0 [⟨S16x2048x4096, (mulf (mulf (Host.dotGeneral dot_S16x2048x4096_S16x4096x4096_S16x2048x4096_2_1_1_2_0_0 none a0 (shapeCast _ (extractStridedSlice S1x16x4096x4096 ![1, 0, 0, 0] a2 slices_S2x16x4096x4096_S1x16x4096x4096_1_0_0_0) shapeCasts_S1x16x4096x4096_S16x4096x4096)) (Host.divf (broadcastInDim S16x2048x4096 ![] bcast_S_S16x2048x4096 (constant S_ .f32 0x3F800000#32)) (addf (broadcastInDim S16x2048x4096 ![] bcast_S_S16x2048x4096 (constant S_ .f32 0x3F800000#32)) (Host.exp (Host.negf (Host.dotGeneral dot_S16x2048x4096_S16x4096x4096_S16x2048x4096_2_1_1_2_0_0 none a0 (shapeCast _ (extractStridedSlice S1x16x4096x4096 ![1, 0, 0, 0] a2 slices_S2x16x4096x4096_S1x16x4096x4096_1_0_0_0) shapeCasts_S1x16x4096x4096_S16x4096x4096))))))) (Host.dotGeneral dot_S16x2048x4096_S16x4096x4096_S16x2048x4096_2_1_1_2_0_0 none a0 (shapeCast _ (extractStridedSlice S1x16x4096x4096 ![1, 0, 0, 0] a3 slices_S2x16x4096x4096_S1x16x4096x4096_1_0_0_0) shapeCasts_S1x16x4096x4096_S16x4096x4096)))⟩, ⟨S16x2048x4096, (mulf (mulf (Host.dotGeneral dot_S16x2048x4096_S16x4096x4096_S16x2048x4096_2_1_1_2_0_0 none a1 (shapeCast _ (extractStridedSlice S1x16x4096x4096 ![1, 0, 0, 0] a2 slices_S2x16x4096x4096_S1x16x4096x4096_1_0_0_0) shapeCasts_S1x16x4096x4096_S16x4096x4096)) (Host.divf (broadcastInDim S16x2048x4096 ![] bcast_S_S16x2048x4096 (constant S_ .f32 0x3F800000#32)) (addf (broadcastInDim S16x2048x4096 ![] bcast_S_S16x2048x4096 (constant S_ .f32 0x3F800000#32)) (Host.exp (Host.negf (Host.dotGeneral dot_S16x2048x4096_S16x4096x4096_S16x2048x4096_2_1_1_2_0_0 none a1 (shapeCast _ (extractStridedSlice S1x16x4096x4096 ![1, 0, 0, 0] a2 slices_S2x16x4096x4096_S1x16x4096x4096_1_0_0_0) shapeCasts_S1x16x4096x4096_S16x4096x4096))))))) (Host.dotGeneral dot_S16x2048x4096_S16x4096x4096_S16x2048x4096_2_1_1_2_0_0 none a1 (shapeCast _ (extractStridedSlice S1x16x4096x4096 ![1, 0, 0, 0] a3 slices_S2x16x4096x4096_S1x16x4096x4096_1_0_0_0) shapeCasts_S1x16x4096x4096_S16x4096x4096)))⟩] concatenates_S16x2048x4096_S16x2048x4096_S32x2048x4096_d0) bitsLt_bf16_f32

end Cert.HiddenReferenceIdeal.Mm

namespace Cert.HiddenIdeal.Mm

open Cert.HiddenIdeal Cert.HiddenIdeal.Gen Idealize.ShloMosaic Idealize.ShloMosaic.TcCoe Idealize.SL.Sem
open Idealize.ShloMosaic.Pipeline (Dat)

variable (m : (ℓ : Loc nD τ sig) → Buf (Elt Ideal) ℓ)

/-- Window 0's block index at every grid point. -/
theorem idx0 : ∀ t : Fin cfg0.N, win0_0.index t = ![(grid0.coords t 0).val, (grid0.coords t 1).val, 0] :=
  (by decide +kernel : ∀ t : Fin grid0.N, _)

/-- Window 1's block index at every grid point. -/
theorem idx1 : ∀ t : Fin cfg0.N, win0_1.index t = ![16 + (grid0.coords t 0).val % 16, 0, (grid0.coords t 2).val] :=
  (by decide +kernel : ∀ t : Fin grid0.N, _)

/-- Window 2's block index at every grid point. -/
theorem idx2 : ∀ t : Fin cfg0.N, win0_2.index t = ![16 + (grid0.coords t 0).val % 16, 0, (grid0.coords t 2).val] :=
  (by decide +kernel : ∀ t : Fin grid0.N, _)

/-- Window 3's block index at every grid point. -/
theorem idx3 : ∀ t : Fin cfg0.N, win0_3.index t = ![(grid0.coords t 0).val, (grid0.coords t 1).val, (grid0.coords t 2).val] :=
  (by decide +kernel : ∀ t : Fin grid0.N, _)

/-- The rows of the first sixteen experts are the first argument's. -/
theorem rows_left (c : Dev nD) (i : S32x2048x4096.Idx) (e : Fin 16) (r : Fin 2048) (k : Fin 4096) (h0 : (i 0 : ℕ) = e)
    (h1 : (i 1 : ℕ) = r) (h2 : (i 2 : ℕ) = k) : V m c main_v1 i = m ((c.tc : Thread nD τ).loc main_arg0) (ix3 e r k) := by
  unfold V
  entry_read
  pointwise
  rw [dif_pos (show (i 0 : ℕ) < 16 by omega)]
  blk_ext

/-- The rows of the last sixteen experts are the second argument's. -/
theorem rows_right (c : Dev nD) (i : S32x2048x4096.Idx) (e : Fin 16) (r : Fin 2048) (k : Fin 4096) (h0 : (i 0 : ℕ) = e + 16)
    (h1 : (i 1 : ℕ) = r) (h2 : (i 2 : ℕ) = k) : V m c main_v1 i = m ((c.tc : Thread nD τ).loc main_arg1) (ix3 e r k) := by
  unfold V
  entry_read
  pointwise
  rw [dif_neg (show ¬ (i 0 : ℕ) < 16 by omega)]
  blk_ext

/-- The second layer's weights, read at the merged axis of layers and experts. -/
theorem weights_gate (c : Dev nD) (i : S32x4096x4096.Idx) (e : Fin 16) (k n : Fin 4096) (h0 : (i 0 : ℕ) = 16 + (e : ℕ))
    (h1 : (i 1 : ℕ) = k) (h2 : (i 2 : ℕ) = n) : V m c main_v2 i = m ((c.tc : Thread nD τ).loc main_arg2) (ix4 1 e k n) := by
  unfold V
  entry_read
  pointwise
  blk_ext

/-- The second layer's weights, read at the merged axis of layers and experts. -/
theorem weights_up (c : Dev nD) (i : S32x4096x4096.Idx) (e : Fin 16) (k n : Fin 4096) (h0 : (i 0 : ℕ) = 16 + (e : ℕ))
    (h1 : (i 1 : ℕ) = k) (h2 : (i 2 : ℕ) = n) : V m c main_v3 i = m ((c.tc : Thread nD τ).loc main_arg3) (ix4 1 e k n) := by
  unfold V
  entry_read
  pointwise
  blk_ext

/-- At every index of the block, what the body computes from the blocks of a grid point is the reference's result there. -/
theorem point (c : Dev nD) (t : Fin cfg0.N) (y) :
    k0_pay1 (F := Ideal) (iblk m c 0 t) (iblk m c 1 t) (iblk m c 2 t) y
      = Cert.HiddenReferenceIdeal.Mm.ref (m ((c.tc : Thread nD τ).loc main_arg0)) (m ((c.tc : Thread nD τ).loc main_arg1)) (m ((c.tc : Thread nD τ).loc main_arg2)) (m ((c.tc : Thread nD τ).loc main_arg3))
          (((View.whole main_v4).slice (win0_3.rect t)).emb y) := by
  pointwise [k0_pay1, Cert.HiddenReferenceIdeal.Mm.ref]
  have hc : (grid0.coords t 0 : ℕ) < 32 := (grid0.coords t 0).isLt
  have hy : (y 0 : ℕ) < 1 := (y 0).isLt
  unfold Ideal.logistic
  by_cases h : (((View.whole main_v4).slice (win0_3.rect t)).emb y 0 : ℕ) < 16
  · rw [dif_pos h]
    blk_simp [idx3 t] at h
    refine congrArg₂ _ (congrArg₂ _ (Finset.sum_congr rfl fun k _ => congrArg₂ _ ?_ ?_)
      (congrArg (fun s => Ideal.div 1 (1 + Ideal.exp (-s))) (Finset.sum_congr rfl fun k _ => congrArg₂ _ ?_ ?_)))
      (Finset.sum_congr rfl fun k _ => congrArg₂ _ ?_ ?_)
    · refine rows_left m c _ _ _ _ ?_ ?_ ?_ <;> blk_simp [idx0 t, idx3 t] <;> (try dsimp only) <;> omega
    · refine weights_gate m c _ _ _ _ ?_ ?_ ?_ <;> blk_simp [idx1 t, idx3 t] <;> (try dsimp only) <;> omega
    · refine rows_left m c _ _ _ _ ?_ ?_ ?_ <;> blk_simp [idx0 t, idx3 t] <;> (try dsimp only) <;> omega
    · refine weights_gate m c _ _ _ _ ?_ ?_ ?_ <;> blk_simp [idx1 t, idx3 t] <;> (try dsimp only) <;> omega
    · refine rows_left m c _ _ _ _ ?_ ?_ ?_ <;> blk_simp [idx0 t, idx3 t] <;> (try dsimp only) <;> omega
    · refine weights_up m c _ _ _ _ ?_ ?_ ?_ <;> blk_simp [idx2 t, idx3 t] <;> (try dsimp only) <;> omega
  · rw [dif_neg h]
    blk_simp [idx3 t] at h
    refine congrArg₂ _ (congrArg₂ _ (Finset.sum_congr rfl fun k _ => congrArg₂ _ ?_ ?_)
      (congrArg (fun s => Ideal.div 1 (1 + Ideal.exp (-s))) (Finset.sum_congr rfl fun k _ => congrArg₂ _ ?_ ?_)))
      (Finset.sum_congr rfl fun k _ => congrArg₂ _ ?_ ?_)
    · refine rows_right m c _ _ _ _ ?_ ?_ ?_ <;> blk_simp [idx0 t, idx3 t] <;> (try dsimp only) <;> omega
    · refine weights_gate m c _ _ _ _ ?_ ?_ ?_ <;> blk_simp [idx1 t, idx3 t] <;> (try dsimp only) <;> omega
    · refine rows_right m c _ _ _ _ ?_ ?_ ?_ <;> blk_simp [idx0 t, idx3 t] <;> (try dsimp only) <;> omega
    · refine weights_gate m c _ _ _ _ ?_ ?_ ?_ <;> blk_simp [idx1 t, idx3 t] <;> (try dsimp only) <;> omega
    · refine rows_right m c _ _ _ _ ?_ ?_ ?_ <;> blk_simp [idx0 t, idx3 t] <;> (try dsimp only) <;> omega
    · refine weights_up m c _ _ _ _ ?_ ?_ ?_ <;> blk_simp [idx2 t, idx3 t] <;> (try dsimp only) <;> omega

/-- The output array after the run is the reference's result. -/
theorem final (c : Dev nD) :
    (dats (F := Ideal) m 0 c).arrAt 3 cfg0.N = Cert.HiddenReferenceIdeal.Mm.ref (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 3 _ (by decide +kernel) fun t hf y => ?_
  blk_simp
  rw [after0_3]; frame_out
  exact point m c t y

end Cert.HiddenIdeal.Mm

namespace Cert.Hidden

open Idealize.ShloMosaic Idealize.ShloMosaic.TcCoe Idealize.SL.Sem

/-- Over the extended reals the kernel and the reference leave the same result. -/
theorem algebraic : Cert.algebraic_HiddenIdeal_HiddenReferenceIdeal := by
  intro m ρ m' ρ' _ hagree
  refine ⟨fun c => Cert.HiddenReferenceIdeal.Mm.ref (m ((c.tc : Thread Cert.HiddenIdeal.nD Cert.HiddenIdeal.τ).loc Cert.HiddenIdeal.main_arg0)) (m ((c.tc : Thread Cert.HiddenIdeal.nD Cert.HiddenIdeal.τ).loc Cert.HiddenIdeal.main_arg1)) (m ((c.tc : Thread Cert.HiddenIdeal.nD Cert.HiddenIdeal.τ).loc Cert.HiddenIdeal.main_arg2)) (m ((c.tc : Thread Cert.HiddenIdeal.nD Cert.HiddenIdeal.τ).loc Cert.HiddenIdeal.main_arg3)), ?_, ?_⟩
  · refine (θ_run _ _ _).mono (fun r h c => ?_) (Cert.HiddenIdeal.Value.run_blocks (F := Ideal) m ρ)
    obtain ⟨h0, h1⟩ := h c
    exact ⟨h0.trans (Cert.HiddenIdeal.Mm.final m c), h1⟩
  · refine (θ_run _ _ _).mono (fun r h c => ?_) (Cert.HiddenReferenceIdeal.Value.run (F := Ideal) m' ρ')
    obtain ⟨h0, h1⟩ := h c
    refine ⟨h0.trans ?_, h1⟩
    obtain ⟨e0, e1, e2, e3⟩ := hagree c
    show _ = Cert.HiddenReferenceIdeal.Mm.ref (m ((c.tc : Thread Cert.HiddenIdeal.nD Cert.HiddenIdeal.τ).loc Cert.HiddenIdeal.main_arg0)) (m ((c.tc : Thread Cert.HiddenIdeal.nD Cert.HiddenIdeal.τ).loc Cert.HiddenIdeal.main_arg1)) (m ((c.tc : Thread Cert.HiddenIdeal.nD Cert.HiddenIdeal.τ).loc Cert.HiddenIdeal.main_arg2)) (m ((c.tc : Thread Cert.HiddenIdeal.nD Cert.HiddenIdeal.τ).loc Cert.HiddenIdeal.main_arg3))
    rw [← e0, ← e1, ← e2, ← e3]; rfl

end Cert.Hidden

end
-- ==== Proof.Mm.RetIn.lean ====
module

public import proofs.«01_k».proof.Defs
public import proofs.«01_k».proof.Proof.Gen.RetInIdeal.Value
public import proofs.«01_k».proof.Proof.Gen.RetInReferenceIdeal.Run
public import Idealize.ShloMosaic.Lib.Pipeline.ValueKit.Point
public import Idealize.ShloMosaic.Lib.Claim

/-! The value of the retention layer's input projection: every block the kernel writes is the same block of the reference's result. -/

@[expose] public section

set_option maxRecDepth 16384

noncomputable section

namespace Cert.RetInReferenceIdeal.Mm

open Cert.RetInReferenceIdeal Cert.RetInReferenceIdeal.Gen Idealize.ShloMosaic

/-- The reference's result as a function of its arguments. -/
def ref (a0 : FVec Ideal S32768x4096 .f32) (a1 : FVec Ideal S1x4096x24576 .f32) : FVec Ideal S1x32768x24576 .bf16 :=
  broadcastInDim S1x32768x24576 ![1, 2] bcast_S32768x24576_S1x32768x24576_1_2 (truncf .bf16 (Host.dotGeneral dot_S32768x4096_S4096x24576_S32768x24576_1_0_0_1_n_n none a0 (shapeCast _ a1 shapeCasts_S1x4096x24576_S4096x24576)) bitsLt_bf16_f32)

end Cert.RetInReferenceIdeal.Mm

namespace Cert.RetInIdeal.Mm

open Cert.RetInIdeal Cert.RetInIdeal.Gen Idealize.ShloMosaic Idealize.ShloMosaic.TcCoe Idealize.SL.Sem
open Idealize.ShloMosaic.Pipeline (Dat)

variable (m : (ℓ : Loc nD τ sig) → Buf (Elt Ideal) ℓ)

/-- Window 0's block index at every grid point. -/
theorem idx0 : ∀ t : Fin cfg0.N, win0_0.index t = ![(grid0.coords t 0).val, (grid0.coords t 1).val, 0] :=
  (by decide +kernel : ∀ t : Fin grid0.N, _)

/-- Window 1's block index at every grid point. -/
theorem idx1 : ∀ t : Fin cfg0.N, win0_1.index t = ![0, 0, (grid0.coords t 2).val] :=
  (by decide +kernel : ∀ t : Fin grid0.N, _)

/-- Window 2's block index at every grid point. -/
theorem idx2 : ∀ t : Fin cfg0.N, win0_2.index t = ![(grid0.coords t 0).val, (grid0.coords t 1).val, (grid0.coords t 2).val] :=
  (by decide +kernel : ∀ t : Fin grid0.N, _)

/-- At every index of the block, what the body computes from the blocks of a grid point is the reference's result there. -/
theorem point (c : Dev nD) (t : Fin cfg0.N) (y) :
    k0_pay1 (F := Ideal) (iblk m c 0 t) (iblk m c 1 t) y
      = Cert.RetInReferenceIdeal.Mm.ref (m ((c.tc : Thread nD τ).loc main_arg0)) (m ((c.tc : Thread nD τ).loc main_arg1))
          (((View.whole main_v5).slice (win0_2.rect t)).emb y) := by
  pointwise [k0_pay1, Cert.RetInReferenceIdeal.Mm.ref]
  refine Finset.sum_congr rfl fun k _ => congrArg₂ _ ?_ ?_
  · blk_simp [iblk, V]; entry_read; pointwise
    blk_ext [idx0 t, idx2 t]
  · blk_simp [iblk, V]; entry_read; pointwise
    blk_ext [idx1 t, idx2 t]

/-- The output array after the run is the reference's result. -/
theorem final (c : Dev nD) :
    (dats (F := Ideal) m 0 c).arrAt 2 cfg0.N = Cert.RetInReferenceIdeal.Mm.ref (m ((c.tc : Thread nD τ).loc main_arg0)) (m ((c.tc : Thread nD τ).loc main_arg1)) := by
  refine (dats m 0 c).arrAt_eq_of_covers 2 _ (by decide +kernel) fun t hf y => ?_
  blk_simp
  rw [after0_2]; frame_out
  exact point m c t y

end Cert.RetInIdeal.Mm

namespace Cert.RetIn

open Idealize.ShloMosaic Idealize.ShloMosaic.TcCoe Idealize.SL.Sem

/-- Over the extended reals the kernel and the reference leave the same result. -/
theorem algebraic : Cert.algebraic_RetInIdeal_RetInReferenceIdeal := by
  intro m ρ m' ρ' _ hagree
  refine ⟨fun c => Cert.RetInReferenceIdeal.Mm.ref (m ((c.tc : Thread Cert.RetInIdeal.nD Cert.RetInIdeal.τ).loc Cert.RetInIdeal.main_arg0)) (m ((c.tc : Thread Cert.RetInIdeal.nD Cert.RetInIdeal.τ).loc Cert.RetInIdeal.main_arg1)), ?_, ?_⟩
  · refine (θ_run _ _ _).mono (fun r h c => ?_) (Cert.RetInIdeal.Value.run_blocks (F := Ideal) m ρ)
    obtain ⟨h0, h1⟩ := h c
    exact ⟨h0.trans (Cert.RetInIdeal.Mm.final m c), h1⟩
  · refine (θ_run _ _ _).mono (fun r h c => ?_) (Cert.RetInReferenceIdeal.Value.run (F := Ideal) m' ρ')
    obtain ⟨h0, h1⟩ := h c
    refine ⟨h0.trans ?_, h1⟩
    obtain ⟨e0, e1⟩ := hagree c
    show _ = Cert.RetInReferenceIdeal.Mm.ref (m ((c.tc : Thread Cert.RetInIdeal.nD Cert.RetInIdeal.τ).loc Cert.RetInIdeal.main_arg0)) (m ((c.tc : Thread Cert.RetInIdeal.nD Cert.RetInIdeal.τ).loc Cert.RetInIdeal.main_arg1))
    rw [← e0, ← e1]; rfl

end Cert.RetIn

end
-- ==== Proof.Mm.Down.lean ====
module

public import proofs.«01_k».proof.Defs
public import proofs.«01_k».proof.Proof.Gen.DownIdeal.Value
public import proofs.«01_k».proof.Proof.Gen.DownReferenceIdeal.Run
public import Idealize.ShloMosaic.Lib.Pipeline.ValueKit.Point
public import Idealize.ShloMosaic.Lib.Claim

/-! The value of the experts' second product, scaled by the gates: every block the kernel writes is the same block of the reference's result. -/

@[expose] public section

set_option maxRecDepth 16384

noncomputable section

namespace Cert.DownReferenceIdeal.Mm

open Cert.DownReferenceIdeal Cert.DownReferenceIdeal.Gen Idealize.ShloMosaic

/-- The reference's result as a function of its arguments. -/
def ref (a0 : FVec Ideal S16x2048x4096 .f32) (a1 : FVec Ideal S16x2048x4096 .f32) (a2 : FVec Ideal S16x2048 .f32) (a3 : FVec Ideal S16x2048 .f32) (a4 : FVec Ideal S2x16x4096x4096 .f32) : FVec Ideal S32x2048x4096 .f32 :=
  concatenate S32x2048x4096 0 [⟨S16x2048x4096, (mulf (Host.dotGeneral dot_S16x2048x4096_S16x4096x4096_S16x2048x4096_2_1_1_2_0_0 none a0 (shapeCast _ (extractStridedSlice S1x16x4096x4096 ![1, 0, 0, 0] a4 slices_S2x16x4096x4096_S1x16x4096x4096_1_0_0_0) shapeCasts_S1x16x4096x4096_S16x4096x4096)) (broadcastInDim S16x2048x4096 ![0, 1, 2] bcast_S16x2048x1_S16x2048x4096_0_1_2 (broadcastInDim S16x2048x1 ![0, 1] bcast_S16x2048_S16x2048x1_0_1 a2)))⟩, ⟨S16x2048x4096, (mulf (Host.dotGeneral dot_S16x2048x4096_S16x4096x4096_S16x2048x4096_2_1_1_2_0_0 none a1 (shapeCast _ (extractStridedSlice S1x16x4096x4096 ![1, 0, 0, 0] a4 slices_S2x16x4096x4096_S1x16x4096x4096_1_0_0_0) shapeCasts_S1x16x4096x4096_S16x4096x4096)) (broadcastInDim S16x2048x4096 ![0, 1, 2] bcast_S16x2048x1_S16x2048x4096_0_1_2 (broadcastInDim S16x2048x1 ![0, 1] bcast_S16x2048_S16x2048x1_0_1 a3)))⟩] concatenates_S16x2048x4096_S16x2048x4096_S32x2048x4096_d0

end Cert.DownReferenceIdeal.Mm

namespace Cert.DownIdeal.Mm

open Cert.DownIdeal Cert.DownIdeal.Gen Idealize.ShloMosaic Idealize.ShloMosaic.TcCoe Idealize.SL.Sem
open Idealize.ShloMosaic.Pipeline (Dat)

variable (m : (ℓ : Loc nD τ sig) → Buf (Elt Ideal) ℓ)

/-- Window 0's block index at every grid point. -/
theorem idx0 : ∀ t : Fin cfg0.N, win0_0.index t = ![(grid0.coords t 0).val, (grid0.coords t 1).val, 0] :=
  (by decide +kernel : ∀ t : Fin grid0.N, _)

/-- Window 1's block index at every grid point. -/
theorem idx1 : ∀ t : Fin cfg0.N, win0_1.index t = ![16 + (grid0.coords t 0).val % 16, 0, (grid0.coords t 2).val] :=
  (by decide +kernel : ∀ t : Fin grid0.N, _)

/-- Window 2's block index at every grid point. -/
theorem idx2 : ∀ t : Fin cfg0.N, win0_2.index t = ![(grid0.coords t 0).val, (grid0.coords t 1).val, 0] :=
  (by decide +kernel : ∀ t : Fin grid0.N, _)

/-- Window 3's block index at every grid point. -/
theorem idx3 : ∀ t : Fin cfg0.N, win0_3.index t = ![(grid0.coords t 0).val, (grid0.coords t 1).val, (grid0.coords t 2).val] :=
  (by decide +kernel : ∀ t : Fin grid0.N, _)

/-- The rows of the first sixteen experts are the first argument's. -/
theorem rows_left (c : Dev nD) (i : S32x2048x4096.Idx) (e : Fin 16) (r : Fin 2048) (k : Fin 4096) (h0 : (i 0 : ℕ) = e)
    (h1 : (i 1 : ℕ) = r) (h2 : (i 2 : ℕ) = k) : V m c main_v1 i = m ((c.tc : Thread nD τ).loc main_arg0) (ix3 e r k) := by
  unfold V
  entry_read
  pointwise
  rw [dif_pos (show (i 0 : ℕ) < 16 by omega)]
  blk_ext

/-- The rows of the last sixteen experts are the second argument's. -/
theorem rows_right (c : Dev nD) (i : S32x2048x4096.Idx) (e : Fin 16) (r : Fin 2048) (k : Fin 4096) (h0 : (i 0 : ℕ) = e + 16)
    (h1 : (i 1 : ℕ) = r) (h2 : (i 2 : ℕ) = k) : V m c main_v1 i = m ((c.tc : Thread nD τ).loc main_arg1) (ix3 e r k) := by
  unfold V
  entry_read
  pointwise
  rw [dif_neg (show ¬ (i 0 : ℕ) < 16 by omega)]
  blk_ext

/-- The gates of the first sixteen experts are the third argument's. -/
theorem gates_left (c : Dev nD) (i : S32x2048x1.Idx) (e : Fin 16) (r : Fin 2048) (h0 : (i 0 : ℕ) = e)
    (h1 : (i 1 : ℕ) = r) : V m c main_v4 i = m ((c.tc : Thread nD τ).loc main_arg2) (ix2 e r) := by
  unfold V
  entry_read
  pointwise
  rw [dif_pos (show (i 0 : ℕ) < 16 by omega)]
  blk_ext

/-- The gates of the last sixteen experts are the fourth argument's. -/
theorem gates_right (c : Dev nD) (i : S32x2048x1.Idx) (e : Fin 16) (r : Fin 2048) (h0 : (i 0 : ℕ) = e + 16)
    (h1 : (i 1 : ℕ) = r) : V m c main_v4 i = m ((c.tc : Thread nD τ).loc main_arg3) (ix2 e r) := by
  unfold V
  entry_read
  pointwise
  rw [dif_neg (show ¬ (i 0 : ℕ) < 16 by omega)]
  blk_ext

/-- The second layer's weights, read at the merged axis of layers and experts. -/
theorem weights (c : Dev nD) (i : S32x4096x4096.Idx) (e : Fin 16) (k n : Fin 4096) (h0 : (i 0 : ℕ) = 16 + (e : ℕ))
    (h1 : (i 1 : ℕ) = k) (h2 : (i 2 : ℕ) = n) : V m c main_v3 i = m ((c.tc : Thread nD τ).loc main_arg4) (ix4 1 e k n) := by
  unfold V
  entry_read
  pointwise
  blk_ext

/-- At every index of the block, what the body computes from the blocks of a grid point is the reference's result there. -/
theorem point (c : Dev nD) (t : Fin cfg0.N) (y) :
    k0_pay1 (F := Ideal) (iblk m c 0 t) (iblk m c 1 t) (iblk m c 2 t) y
      = Cert.DownReferenceIdeal.Mm.ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (((View.whole main_v5).slice (win0_3.rect t)).emb y) := by
  pointwise [k0_pay1, Cert.DownReferenceIdeal.Mm.ref]
  have hc : (grid0.coords t 0 : ℕ) < 32 := (grid0.coords t 0).isLt
  have hy : (y 0 : ℕ) < 1 := (y 0).isLt
  by_cases h : (((View.whole main_v5).slice (win0_3.rect t)).emb y 0 : ℕ) < 16
  · rw [dif_pos h]
    blk_simp [idx3 t] at h
    refine congrArg₂ _ (Finset.sum_congr rfl fun k _ => congrArg₂ _ ?_ ?_) ?_
    · refine rows_left m c _ _ _ _ ?_ ?_ ?_ <;> blk_simp [idx0 t, idx3 t] <;> (try dsimp only) <;> omega
    · refine weights m c _ _ _ _ ?_ ?_ ?_ <;> blk_simp [idx1 t, idx3 t] <;> (try dsimp only) <;> omega
    · refine gates_left m c _ _ _ ?_ ?_ <;> blk_simp [idx2 t, idx3 t] <;> (try dsimp only) <;> omega
  · rw [dif_neg h]
    blk_simp [idx3 t] at h
    refine congrArg₂ _ (Finset.sum_congr rfl fun k _ => congrArg₂ _ ?_ ?_) ?_
    · refine rows_right m c _ _ _ _ ?_ ?_ ?_ <;> blk_simp [idx0 t, idx3 t] <;> (try dsimp only) <;> omega
    · refine weights m c _ _ _ _ ?_ ?_ ?_ <;> blk_simp [idx1 t, idx3 t] <;> (try dsimp only) <;> omega
    · refine gates_right m c _ _ _ ?_ ?_ <;> blk_simp [idx2 t, idx3 t] <;> (try dsimp only) <;> omega

/-- The output array after the run is the reference's result. -/
theorem final (c : Dev nD) :
    (dats (F := Ideal) m 0 c).arrAt 3 cfg0.N = Cert.DownReferenceIdeal.Mm.ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 3 _ (by decide +kernel) fun t hf y => ?_
  blk_simp
  rw [after0_3]; frame_out
  exact point m c t y

end Cert.DownIdeal.Mm

namespace Cert.Down

open Idealize.ShloMosaic Idealize.ShloMosaic.TcCoe Idealize.SL.Sem

/-- Over the extended reals the kernel and the reference leave the same result. -/
theorem algebraic : Cert.algebraic_DownIdeal_DownReferenceIdeal := by
  intro m ρ m' ρ' _ hagree
  refine ⟨fun c => Cert.DownReferenceIdeal.Mm.ref (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)), ?_, ?_⟩
  · refine (θ_run _ _ _).mono (fun r h c => ?_) (Cert.DownIdeal.Value.run_blocks (F := Ideal) m ρ)
    obtain ⟨h0, h1⟩ := h c
    exact ⟨h0.trans (Cert.DownIdeal.Mm.final m c), h1⟩
  · refine (θ_run _ _ _).mono (fun r h c => ?_) (Cert.DownReferenceIdeal.Value.run (F := Ideal) m' ρ')
    obtain ⟨h0, h1⟩ := h c
    refine ⟨h0.trans ?_, h1⟩
    obtain ⟨e0, e1, e2, e3, e4⟩ := hagree c
    show _ = Cert.DownReferenceIdeal.Mm.ref (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))
    rw [← e0, ← e1, ← e2, ← e3, ← e4]; rfl

end Cert.Down

end
-- ==== Proof.Mm.RetOut.lean ====
module

public import proofs.«01_k».proof.Defs
public import proofs.«01_k».proof.Proof.Gen.RetOutIdeal.Value
public import proofs.«01_k».proof.Proof.Gen.RetOutReferenceIdeal.Run
public import Idealize.ShloMosaic.Lib.Pipeline.ValueKit.Point
public import Idealize.ShloMosaic.Lib.Claim

/-! The value of the retention layer's output projection with its residual: every block the kernel writes is the same block of the reference's result. -/

@[expose] public section

set_option maxRecDepth 16384

noncomputable section

namespace Cert.RetOutReferenceIdeal.Mm

open Cert.RetOutReferenceIdeal Cert.RetOutReferenceIdeal.Gen Idealize.ShloMosaic

/-- The reference's result as a function of its arguments. -/
def ref (a0 : FVec Ideal S32768x8192 .f32) (a1 : FVec Ideal S1x8192x4096 .f32) (a2 : FVec Ideal S32768x4096 .f32) : FVec Ideal S1x32768x4096 .f32 :=
  broadcastInDim S1x32768x4096 ![1, 2] bcast_S32768x4096_S1x32768x4096_1_2 (addf a2 (Host.dotGeneral dot_S32768x8192_S8192x4096_S32768x4096_1_0_0_1_n_n none a0 (shapeCast _ a1 shapeCasts_S1x8192x4096_S8192x4096)))

end Cert.RetOutReferenceIdeal.Mm

namespace Cert.RetOutIdeal.Mm

open Cert.RetOutIdeal Cert.RetOutIdeal.Gen Idealize.ShloMosaic Idealize.ShloMosaic.TcCoe Idealize.SL.Sem
open Idealize.ShloMosaic.Pipeline (Dat)

variable (m : (ℓ : Loc nD τ sig) → Buf (Elt Ideal) ℓ)

/-- Window 0's block index at every grid point. -/
theorem idx0 : ∀ t : Fin cfg0.N, win0_0.index t = ![(grid0.coords t 0).val, (grid0.coords t 1).val, 0] :=
  (by decide +kernel : ∀ t : Fin grid0.N, _)

/-- Window 1's block index at every grid point. -/
theorem idx1 : ∀ t : Fin cfg0.N, win0_1.index t = ![0, 0, (grid0.coords t 2).val] :=
  (by decide +kernel : ∀ t : Fin grid0.N, _)

/-- Window 2's block index at every grid point. -/
theorem idx2 : ∀ t : Fin cfg0.N, win0_2.index t = ![(grid0.coords t 0).val, (grid0.coords t 1).val, (grid0.coords t 2).val] :=
  (by decide +kernel : ∀ t : Fin grid0.N, _)

/-- Window 3's block index at every grid point. -/
theorem idx3 : ∀ t : Fin cfg0.N, win0_3.index t = ![(grid0.coords t 0).val, (grid0.coords t 1).val, (grid0.coords t 2).val] :=
  (by decide +kernel : ∀ t : Fin grid0.N, _)

/-- At every index of the block, what the body computes from the blocks of a grid point is the reference's result there. -/
theorem point (c : Dev nD) (t : Fin cfg0.N) (y) :
    k0_pay1 (F := Ideal) (iblk m c 0 t) (iblk m c 1 t) (iblk m c 2 t) y
      = Cert.RetOutReferenceIdeal.Mm.ref (m ((c.tc : Thread nD τ).loc main_arg0)) (m ((c.tc : Thread nD τ).loc main_arg1)) (m ((c.tc : Thread nD τ).loc main_arg2))
          (((View.whole main_v6).slice (win0_3.rect t)).emb y) := by
  pointwise [k0_pay1, Cert.RetOutReferenceIdeal.Mm.ref]
  rw [add_comm]
  refine congrArg₂ _ ?_ (Finset.sum_congr rfl fun k _ => congrArg₂ _ ?_ ?_)
  · blk_simp [iblk, V]; entry_read; pointwise
    blk_ext [idx2 t, idx3 t]
  · blk_simp [iblk, V]; entry_read; pointwise
    blk_ext [idx0 t, idx3 t]
  · blk_simp [iblk, V]; entry_read; pointwise
    blk_ext [idx1 t, idx3 t]

/-- The output array after the run is the reference's result. -/
theorem final (c : Dev nD) :
    (dats (F := Ideal) m 0 c).arrAt 3 cfg0.N = Cert.RetOutReferenceIdeal.Mm.ref (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]; frame_out
  exact point m c t y

end Cert.RetOutIdeal.Mm

namespace Cert.RetOut

open Idealize.ShloMosaic Idealize.ShloMosaic.TcCoe Idealize.SL.Sem

/-- Over the extended reals the kernel and the reference leave the same result. -/
theorem algebraic : Cert.algebraic_RetOutIdeal_RetOutReferenceIdeal := by
  intro m ρ m' ρ' _ hagree
  refine ⟨fun c => Cert.RetOutReferenceIdeal.Mm.ref (m ((c.tc : Thread Cert.RetOutIdeal.nD Cert.RetOutIdeal.τ).loc Cert.RetOutIdeal.main_arg0)) (m ((c.tc : Thread Cert.RetOutIdeal.nD Cert.RetOutIdeal.τ).loc Cert.RetOutIdeal.main_arg1)) (m ((c.tc : Thread Cert.RetOutIdeal.nD Cert.RetOutIdeal.τ).loc Cert.RetOutIdeal.main_arg2)), ?_, ?_⟩
  · refine (θ_run _ _ _).mono (fun r h c => ?_) (Cert.RetOutIdeal.Value.run_blocks (F := Ideal) m ρ)
    obtain ⟨h0, h1⟩ := h c
    exact ⟨h0.trans (Cert.RetOutIdeal.Mm.final m c), h1⟩
  · refine (θ_run _ _ _).mono (fun r h c => ?_) (Cert.RetOutReferenceIdeal.Value.run (F := Ideal) m' ρ')
    obtain ⟨h0, h1⟩ := h c
    refine ⟨h0.trans ?_, h1⟩
    obtain ⟨e0, e1, e2⟩ := hagree c
    show _ = Cert.RetOutReferenceIdeal.Mm.ref (m ((c.tc : Thread Cert.RetOutIdeal.nD Cert.RetOutIdeal.τ).loc Cert.RetOutIdeal.main_arg0)) (m ((c.tc : Thread Cert.RetOutIdeal.nD Cert.RetOutIdeal.τ).loc Cert.RetOutIdeal.main_arg1)) (m ((c.tc : Thread Cert.RetOutIdeal.nD Cert.RetOutIdeal.τ).loc Cert.RetOutIdeal.main_arg2))
    rw [← e0, ← e1, ← e2]; rfl

end Cert.RetOut

end
-- ==== Proof.Mm.AttnIn.lean ====
module

public import proofs.«01_k».proof.Defs
public import proofs.«01_k».proof.Proof.Gen.AttnInIdeal.Value
public import proofs.«01_k».proof.Proof.Gen.AttnInReferenceIdeal.Run
public import Idealize.ShloMosaic.Lib.Pipeline.ValueKit.Point
public import Idealize.ShloMosaic.Lib.Claim

/-! The value of the attention layer's input projection: every block the kernel writes is the same block of the reference's result. -/

@[expose] public section

set_option maxRecDepth 16384

noncomputable section

namespace Cert.AttnInReferenceIdeal.Mm

open Cert.AttnInReferenceIdeal Cert.AttnInReferenceIdeal.Gen Idealize.ShloMosaic

/-- The reference's result as a function of its arguments. -/
def ref (a0 : FVec Ideal S32768x4096 .f32) (a1 : FVec Ideal S1x4096x6144 .f32) : FVec Ideal S1x32768x6144 .bf16 :=
  broadcastInDim S1x32768x6144 ![1, 2] bcast_S32768x6144_S1x32768x6144_1_2 (truncf .bf16 (Host.dotGeneral dot_S32768x4096_S4096x6144_S32768x6144_1_0_0_1_n_n none a0 (shapeCast _ a1 shapeCasts_S1x4096x6144_S4096x6144)) bitsLt_bf16_f32)

end Cert.AttnInReferenceIdeal.Mm

namespace Cert.AttnInIdeal.Mm

open Cert.AttnInIdeal Cert.AttnInIdeal.Gen Idealize.ShloMosaic Idealize.ShloMosaic.TcCoe Idealize.SL.Sem
open Idealize.ShloMosaic.Pipeline (Dat)

variable (m : (ℓ : Loc nD τ sig) → Buf (Elt Ideal) ℓ)

/-- Window 0's block index at every grid point. -/
theorem idx0 : ∀ t : Fin cfg0.N, win0_0.index t = ![(grid0.coords t 0).val, (grid0.coords t 1).val, 0] :=
  (by decide +kernel : ∀ t : Fin grid0.N, _)

/-- Window 1's block index at every grid point. -/
theorem idx1 : ∀ t : Fin cfg0.N, win0_1.index t = ![0, 0, (grid0.coords t 2).val] :=
  (by decide +kernel : ∀ t : Fin grid0.N, _)

/-- Window 2's block index at every grid point. -/
theorem idx2 : ∀ t : Fin cfg0.N, win0_2.index t = ![(grid0.coords t 0).val, (grid0.coords t 1).val, (grid0.coords t 2).val] :=
  (by decide +kernel : ∀ t : Fin grid0.N, _)

/-- At every index of the block, what the body computes from the blocks of a grid point is the reference's result there. -/
theorem point (c : Dev nD) (t : Fin cfg0.N) (y) :
    k0_pay1 (F := Ideal) (iblk m c 0 t) (iblk m c 1 t) y
      = Cert.AttnInReferenceIdeal.Mm.ref (m ((c.tc : Thread nD τ).loc main_arg0)) (m ((c.tc : Thread nD τ).loc main_arg1))
          (((View.whole main_v5).slice (win0_2.rect t)).emb y) := by
  pointwise [k0_pay1, Cert.AttnInReferenceIdeal.Mm.ref]
  refine Finset.sum_congr rfl fun k _ => congrArg₂ _ ?_ ?_
  · blk_simp [iblk, V]; entry_read; pointwise
    blk_ext [idx0 t, idx2 t]
  · blk_simp [iblk, V]; entry_read; pointwise
    blk_ext [idx1 t, idx2 t]

/-- The output array after the run is the reference's result. -/
theorem final (c : Dev nD) :
    (dats (F := Ideal) m 0 c).arrAt 2 cfg0.N = Cert.AttnInReferenceIdeal.Mm.ref (m ((c.tc : Thread nD τ).loc main_arg0)) (m ((c.tc : Thread nD τ).loc main_arg1)) := by
  refine (dats m 0 c).arrAt_eq_of_covers 2 _ (by decide +kernel) fun t hf y => ?_
  blk_simp
  rw [after0_2]; frame_out
  exact point m c t y

end Cert.AttnInIdeal.Mm

namespace Cert.AttnIn

open Idealize.ShloMosaic Idealize.ShloMosaic.TcCoe Idealize.SL.Sem

/-- Over the extended reals the kernel and the reference leave the same result. -/
theorem algebraic : Cert.algebraic_AttnInIdeal_AttnInReferenceIdeal := by
  intro m ρ m' ρ' _ hagree
  refine ⟨fun c => Cert.AttnInReferenceIdeal.Mm.ref (m ((c.tc : Thread Cert.AttnInIdeal.nD Cert.AttnInIdeal.τ).loc Cert.AttnInIdeal.main_arg0)) (m ((c.tc : Thread Cert.AttnInIdeal.nD Cert.AttnInIdeal.τ).loc Cert.AttnInIdeal.main_arg1)), ?_, ?_⟩
  · refine (θ_run _ _ _).mono (fun r h c => ?_) (Cert.AttnInIdeal.Value.run_blocks (F := Ideal) m ρ)
    obtain ⟨h0, h1⟩ := h c
    exact ⟨h0.trans (Cert.AttnInIdeal.Mm.final m c), h1⟩
  · refine (θ_run _ _ _).mono (fun r h c => ?_) (Cert.AttnInReferenceIdeal.Value.run (F := Ideal) m' ρ')
    obtain ⟨h0, h1⟩ := h c
    refine ⟨h0.trans ?_, h1⟩
    obtain ⟨e0, e1⟩ := hagree c
    show _ = Cert.AttnInReferenceIdeal.Mm.ref (m ((c.tc : Thread Cert.AttnInIdeal.nD Cert.AttnInIdeal.τ).loc Cert.AttnInIdeal.main_arg0)) (m ((c.tc : Thread Cert.AttnInIdeal.nD Cert.AttnInIdeal.τ).loc Cert.AttnInIdeal.main_arg1))
    rw [← e0, ← e1]; rfl

end Cert.AttnIn

end
-- ==== Proof.Mm.AttnOut.lean ====
module

public import proofs.«01_k».proof.Defs
public import proofs.«01_k».proof.Proof.Gen.AttnOutIdeal.Value
public import proofs.«01_k».proof.Proof.Gen.AttnOutReferenceIdeal.Run
public import Idealize.ShloMosaic.Lib.Pipeline.ValueKit.Point
public import Idealize.ShloMosaic.Lib.Claim

/-! The value of the attention layer's output projection with its residual: every block the kernel writes is the same block of the reference's result. -/

@[expose] public section

set_option maxRecDepth 16384

noncomputable section

namespace Cert.AttnOutReferenceIdeal.Mm

open Cert.AttnOutReferenceIdeal Cert.AttnOutReferenceIdeal.Gen Idealize.ShloMosaic

/-- The reference's result as a function of its arguments. -/
def ref (a0 : FVec Ideal S32768x4096 .f32) (a1 : FVec Ideal S1x4096x4096 .f32) (a2 : FVec Ideal S32768x4096 .f32) : FVec Ideal S1x32768x4096 .f32 :=
  broadcastInDim S1x32768x4096 ![1, 2] bcast_S32768x4096_S1x32768x4096_1_2 (addf a2 (Host.dotGeneral dot_S32768x4096_S4096x4096_S32768x4096_1_0_0_1_n_n none a0 (shapeCast _ a1 shapeCasts_S1x4096x4096_S4096x4096)))

end Cert.AttnOutReferenceIdeal.Mm

namespace Cert.AttnOutIdeal.Mm

open Cert.AttnOutIdeal Cert.AttnOutIdeal.Gen Idealize.ShloMosaic Idealize.ShloMosaic.TcCoe Idealize.SL.Sem
open Idealize.ShloMosaic.Pipeline (Dat)

variable (m : (ℓ : Loc nD τ sig) → Buf (Elt Ideal) ℓ)

/-- Window 0's block index at every grid point. -/
theorem idx0 : ∀ t : Fin cfg0.N, win0_0.index t = ![(grid0.coords t 0).val, (grid0.coords t 1).val, 0] :=
  (by decide +kernel : ∀ t : Fin grid0.N, _)

/-- Window 1's block index at every grid point. -/
theorem idx1 : ∀ t : Fin cfg0.N, win0_1.index t = ![0, 0, (grid0.coords t 2).val] :=
  (by decide +kernel : ∀ t : Fin grid0.N, _)

/-- Window 2's block index at every grid point. -/
theorem idx2 : ∀ t : Fin cfg0.N, win0_2.index t = ![(grid0.coords t 0).val, (grid0.coords t 1).val, (grid0.coords t 2).val] :=
  (by decide +kernel : ∀ t : Fin grid0.N, _)

/-- Window 3's block index at every grid point. -/
theorem idx3 : ∀ t : Fin cfg0.N, win0_3.index t = ![(grid0.coords t 0).val, (grid0.coords t 1).val, (grid0.coords t 2).val] :=
  (by decide +kernel : ∀ t : Fin grid0.N, _)

/-- At every index of the block, what the body computes from the blocks of a grid point is the reference's result there. -/
theorem point (c : Dev nD) (t : Fin cfg0.N) (y) :
    k0_pay1 (F := Ideal) (iblk m c 0 t) (iblk m c 1 t) (iblk m c 2 t) y
      = Cert.AttnOutReferenceIdeal.Mm.ref (m ((c.tc : Thread nD τ).loc main_arg0)) (m ((c.tc : Thread nD τ).loc main_arg1)) (m ((c.tc : Thread nD τ).loc main_arg2))
          (((View.whole main_v6).slice (win0_3.rect t)).emb y) := by
  pointwise [k0_pay1, Cert.AttnOutReferenceIdeal.Mm.ref]
  rw [add_comm]
  refine congrArg₂ _ ?_ (Finset.sum_congr rfl fun k _ => congrArg₂ _ ?_ ?_)
  · blk_simp [iblk, V]; entry_read; pointwise
    blk_ext [idx2 t, idx3 t]
  · blk_simp [iblk, V]; entry_read; pointwise
    blk_ext [idx0 t, idx3 t]
  · blk_simp [iblk, V]; entry_read; pointwise
    blk_ext [idx1 t, idx3 t]

/-- The output array after the run is the reference's result. -/
theorem final (c : Dev nD) :
    (dats (F := Ideal) m 0 c).arrAt 3 cfg0.N = Cert.AttnOutReferenceIdeal.Mm.ref (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]; frame_out
  exact point m c t y

end Cert.AttnOutIdeal.Mm

namespace Cert.AttnOut

open Idealize.ShloMosaic Idealize.ShloMosaic.TcCoe Idealize.SL.Sem

/-- Over the extended reals the kernel and the reference leave the same result. -/
theorem algebraic : Cert.algebraic_AttnOutIdeal_AttnOutReferenceIdeal := by
  intro m ρ m' ρ' _ hagree
  refine ⟨fun c => Cert.AttnOutReferenceIdeal.Mm.ref (m ((c.tc : Thread Cert.AttnOutIdeal.nD Cert.AttnOutIdeal.τ).loc Cert.AttnOutIdeal.main_arg0)) (m ((c.tc : Thread Cert.AttnOutIdeal.nD Cert.AttnOutIdeal.τ).loc Cert.AttnOutIdeal.main_arg1)) (m ((c.tc : Thread Cert.AttnOutIdeal.nD Cert.AttnOutIdeal.τ).loc Cert.AttnOutIdeal.main_arg2)), ?_, ?_⟩
  · refine (θ_run _ _ _).mono (fun r h c => ?_) (Cert.AttnOutIdeal.Value.run_blocks (F := Ideal) m ρ)
    obtain ⟨h0, h1⟩ := h c
    exact ⟨h0.trans (Cert.AttnOutIdeal.Mm.final m c), h1⟩
  · refine (θ_run _ _ _).mono (fun r h c => ?_) (Cert.AttnOutReferenceIdeal.Value.run (F := Ideal) m' ρ')
    obtain ⟨h0, h1⟩ := h c
    refine ⟨h0.trans ?_, h1⟩
    obtain ⟨e0, e1, e2⟩ := hagree c
    show _ = Cert.AttnOutReferenceIdeal.Mm.ref (m ((c.tc : Thread Cert.AttnOutIdeal.nD Cert.AttnOutIdeal.τ).loc Cert.AttnOutIdeal.main_arg0)) (m ((c.tc : Thread Cert.AttnOutIdeal.nD Cert.AttnOutIdeal.τ).loc Cert.AttnOutIdeal.main_arg1)) (m ((c.tc : Thread Cert.AttnOutIdeal.nD Cert.AttnOutIdeal.τ).loc Cert.AttnOutIdeal.main_arg2))
    rw [← e0, ← e1, ← e2]; rfl

end Cert.AttnOut

end
-- ==== Proof.Attn.Setup.lean ====
/- The windowed attention's launch: what the host lines leave in the buffers the pipeline reads, the two tables of block flags,
   the windows' blocks and what each input's staging buffer holds at a grid point. -/
module

public import proofs.«01_k».proof.Proof.Gen.KernelIdeal.Launch
public import Idealize.ShloMosaic.Lib.Pipeline.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The host lines before the region allocate nothing. -/
theorem hostOps0_fresh : (hostOps0 : List (HloOp τ sig (Elt F))).Forall fun op => op.fresh = ∅ := by
  simp only [hostOps0, List.Forall]; repeat' apply And.intro
  all_goals rfl
theorem hostOps0_1_fresh : (hostOps0_1 : List (HloOp τ sig (Elt F))).Forall fun op => op.fresh = ∅ := by
  simp only [hostOps0_1, List.Forall]; repeat' apply And.intro
  all_goals rfl

/-- Core `c`'s buffers when the region is entered: after the two stretches of host lines. -/
abbrev V (c : Dev nD) (b : Ref sig .tc) : Buf (Elt F) ((c : Thread nD τ).loc b) :=
  StableHlo.after (List.flatten [hostOps0, hostOps0_1]) (fun b => m (c, b)) b

set_option maxHeartbeats 800000 in
/-- `@main` up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host line writes argument 0. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
/-- No host line writes argument 1. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
/-- No host line writes argument 2. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-! ## The two tables of flags -/

/-- The tables' contents when the region is entered. -/
def tbl : pre0.Contents (Elt F) := fun j => V m (0 : Dev nD) (pre0.ref j)
/-- There is one device. -/
theorem V_pre (c : Dev nD) (j : Fin 2) : V m c (pre0.ref j) = tbl m j := by
  obtain rfl : c = 0 := Subsingleton.elim _ _; rfl
/-- No index map reads a table, so the pipeline's condition on their contents is empty. -/
theorem okM : ok0 (F := F) (tbl m) := trivial
abbrev adm : (pcfg0 (F := F)).Adm := ⟨tbl m, okM m⟩
abbrev cfgM : Pipeline.Cfg sig Λ₀ := cfg0 (adm m)

/-- Each table as the body is handed it. -/
abbrev tb0 : Memref sig .tc .smem S256 .i32 := Memref.whole main_c
abbrev htb0 : tb0.IsWhole := Memref.isWhole_whole _
abbrev tb1 : Memref sig .tc .smem S256 .i32 := Memref.whole main_c_0
abbrev htb1 : tb1.IsWhole := Memref.isWhole_whole _

/-- A table's contents, and the half of it the body holds. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The tables' halves, table by table. -/
theorem PhiT_eq (c : Dev nD) : (Pipeline.ΦT pre0 (tbl m) c : sProp 𝕄) = iprop(tbPt c tb0 (tbl m 0) ∗ tbPt c tb1 (tbl m 1)) := by
  unfold Pipeline.ΦT Pipeline.prefHeld
  rw [bigSep_univ_eq_bigSepL [(0 : Fin 2), (1 : Fin 2)] (by decide) (by decide)]
  rfl

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Input window 0's staging buffer holds its block at every point. -/
theorem before0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The query block does not tile its array's columns, yet no block the grid reaches is cut; a default for the part
    a cut would leave, which nothing reads. -/
def dflt1 : ((cfgM m).win 1).block.Idx → Elt F ((cfgM m).win 1).elt := fun _ => Classical.choice inferInstance
/-- What the query window's staging buffer holds at point `t`. -/
def X1 (c : Dev nD) (t : Fin (cfgM m).N) : ((cfgM m).win 1).block.Idx → Elt F ((cfgM m).win 1).elt :=
  ((cfgM m).win 1).fill ((cfgM m).grid.coords t) (dflt1 m) (iblk m c 1 t)
/-- The clip of the query window at every point of the grid leaves the whole block. -/
theorem clip1_extent : ∀ t : Fin grid0.N, ∀ a, (clip0_1 (grid0.coords t) a).extent (spec0_1.size a) = spec0_1.size a := by decide +kernel
theorem xsize1 (t : Fin (cfgM m).N) (a) : ((cfgM m).win 1).xsize ((cfgM m).grid.coords t) a = ((cfgM m).win 1).size a :=
  clip1_extent t a
theorem moved1 (t : Fin (cfgM m).N) (j : ((cfgM m).win 1).block.Idx) : ((cfgM m).win 1).moved ((cfgM m).grid.coords t) j = true :=
  (((cfgM m).win 1).moved_iff _ j).mpr fun a => by rw [xsize1 m t a]; exact (j a).isLt
theorem fill1 (t : Fin (cfgM m).N) (d d' : ((cfgM m).win 1).block.Idx → Elt F ((cfgM m).win 1).elt) (g) :
    ((cfgM m).win 1).fill ((cfgM m).grid.coords t) d g = ((cfgM m).win 1).fill ((cfgM m).grid.coords t) d' g := by
  funext j; unfold Pipeline.Window.fill; rw [dif_pos (moved1 m t j), dif_pos (moved1 m t j)]
/-- The query window's staging buffer holds its block at every point. -/
theorem before1_of {c : Dev nD} (dat : Dat τ (Elt F) Unit ℕ (UR sig nD τ) ℕ (cfgM m) c) (hA : dat.A 1 = V m c (Pipeline.arrRef spec0 1))
    (hafter : ∀ t, dat.after 1 t = X1 m c t) (t : Fin (cfgM m).N) (d) : dat.before 1 t d = X1 m c t :=
  (dat.before_in_eq_fetched 1 rfl (fun _ => rfl)
      (fun t t' h => funext fun a => congrArg (fun n => Pipeline.Clip.of n (((cfgM m).win 1).size a) (S32768x6144.size a)) (congrFun h a))
      (fun t => by rw [hafter]; unfold X1; rw [Pipeline.Window.cut_fill]; unfold Dat.blockOf iblk; rw [hA]; try rfl) t d).trans
    (by unfold Dat.fetched X1; rw [fill1 m t d (dflt1 m)]; unfold Dat.blockOf iblk; rw [hA]; try rfl)
/-- Input window 2's staging buffer holds its block at every point. -/
theorem before2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point. -/
theorem before4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point. -/
theorem before5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point. -/
theorem before6_of {c : Dev nD} (dat : Dat τ (Elt F) Unit ℕ (UR sig nD τ) ℕ (cfgM m) c) (hA : dat.A 6 = V m c (Pipeline.arrRef spec0 6))
    (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point. -/
theorem before7_of {c : Dev nD} (dat : Dat τ (Elt F) Unit ℕ (UR sig nD τ) ℕ (cfgM m) c) (hA : dat.A 7 = V m c (Pipeline.arrRef spec0 7))
    (hafter : ∀ t, dat.after 7 t = iblk m c 7 t) (t : Fin (cfgM m).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point. -/
theorem before8_of {c : Dev nD} (dat : Dat τ (Elt F) Unit ℕ (UR sig nD τ) ℕ (cfgM m) c) (hA : dat.A 8 = V m c (Pipeline.arrRef spec0 8))
    (hafter : ∀ t, dat.after 8 t = iblk m c 8 t) (t : Fin (cfgM m).N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point -/

abbrev ms0 (t : Fin (cfgM m).N) : Memref sig .tc .smem S32 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S128x4096 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S128x1024 .bf16 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S128x1024 .bf16 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S128x1024 .bf16 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S128x1024 .bf16 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S128x1024 .bf16 := spec0_6.stage ((cfgM m).slots t 6)
abbrev hs6 (t : Fin (cfgM m).N) : (ms6 m t).IsWhole := hstage0_6 (((cfgM m).slots t 6).cast nbuf0_6)
abbrev ms7 (t : Fin (cfgM m).N) : Memref sig .tc .vmem S128x1024 .bf16 := spec0_7.stage ((cfgM m).slots t 7)
abbrev hs7 (t : Fin (cfgM m).N) : (ms7 m t).IsWhole := hstage0_7 (((cfgM m).slots t 7).cast nbuf0_7)
abbrev ms8 (t : Fin (cfgM m).N) : Memref sig .tc .vmem S32x128x384 .f32 := spec0_8.stage ((cfgM m).slots t 8)
abbrev hs8 (t : Fin (cfgM m).N) : (ms8 m t).IsWhole := hstage0_8 (((cfgM m).slots t 8).cast nbuf0_8)
abbrev ms9 (t : Fin (cfgM m).N) : Memref sig .tc .vmem S128x4096 .bf16 := spec0_9.stage ((cfgM m).slots t 9)
abbrev hs9 (t : Fin (cfgM m).N) : (ms9 m t).IsWhole := hstage0_9 (((cfgM m).slots t 9).cast nbuf0_9)
/-- The kernel body at point `t`, on what the pipeline calls it with. -/
abbrev bodyAt (t : Fin (cfgM m).N) : Prog (TpuEff nD τ sig (Elt F) Λ₀ .tc) PUnit :=
  cc0__attn_kernel (grid0.coords t) tb0 htb0 tb1 htb1 (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t)

/-- One staging buffer of the output window, through which its contents are stated. -/
abbrev VO : View sig .tc .vmem S128x4096 .bf16 := (Memref.whole cc0_stg9_0 : Memref sig .tc .vmem S128x4096 .bf16).view

end Cert.KernelIdeal.Attn

end
-- ==== Proof.Attn.Body.lean ====
/- One run of the attention body on any staging buffers, with the pieces its thirty-two stores leave in the output's. -/
module

public import proofs.«01_k».proof.Proof.Attn.Setup
public import proofs.«01_k».proof.Proof.Gen.KernelIdeal.Skeleton

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 2000000 in
/-- What the body's stores leave in the output's staging buffer, as pieces (last first), with the proof that the body
    runs on whole staging buffers holding the inputs' blocks and gives them back unchanged, the tables' halves too. -/
noncomputable def kernelRun (c : Dev nD) (i : grid0.Coords) (arg3 : Memref sig .tc .smem S32 .f32) (harg3 : arg3.IsWhole) (arg4 : Memref sig .tc .vmem S128x4096 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S32x128x384 .f32) (harg11 : arg11.IsWhole) (arg12 : Memref sig .tc .vmem S128x4096 .bf16) (harg12 : arg12.IsWhole)
    (u0 : TbBuf (F := F) c tb0) (u1 : TbBuf (F := F) c tb1) (x0 : Vec F S32 .f32) (x1 : Vec F S128x4096 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S32x128x384 .f32) :
    { L : List (View.Piece (Elt F) S128x4096 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ tbPt c tb0 u0 ∗ tbPt c tb1 u1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L) ∗ tbPt c tb0 u0 ∗ tbPt c tb1 u1) -∗ K ⟨⟩))
          ⊢ wp frame (wpE (defs₀ (F := F)) Variants.none c none) E (cc0__attn_kernel i tb0 htb0 tb1 htb1 arg3 harg3 arg4 harg4 arg5 harg5 arg6 harg6 arg7 harg7 arg8 harg8 arg9 harg9 arg10 harg10 arg11 harg11 arg12 harg12) K } := by
  refine ⟨?_, fun E K => ?run⟩
  case run =>
    simp only [cc0__attn_kernel_eq_skeleton]; unfold cc0__attn_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; iexact H9
    isplitl [HT0]
    · iexact HT0
    iexact HT1

end Cert.KernelIdeal.Attn

end
-- ==== Proof.Attn.Frame.lean ====
/- The attention's pipeline: what each point leaves in the windows, the body obligation at every point, the launch and the frame. -/
module

public import proofs.«01_k».proof.Proof.Attn.Body

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The thirty-two stores tile the output block. -/
theorem cover (c : Dev nD) (i : grid0.Coords) (arg3 : Memref sig .tc .smem S32 .f32) (harg3 : arg3.IsWhole) (arg4 : Memref sig .tc .vmem S128x4096 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S32x128x384 .f32) (harg11 : arg11.IsWhole) (arg12 : Memref sig .tc .vmem S128x4096 .bf16) (harg12 : arg12.IsWhole)
    (u0 : TbBuf (F := F) c tb0) (u1 : TbBuf (F := F) c tb1) (x0 : Vec F S32 .f32) (x1 : Vec F S128x4096 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S32x128x384 .f32) (y : S128x4096.Idx) :
    ∃ pc ∈ (kernelRun c i arg3 harg3 arg4 harg4 arg5 harg5 arg6 harg6 arg7 harg7 arg8 harg8 arg9 harg9 arg10 harg10 arg11 harg11 arg12 harg12 u0 u1 x0 x1 x2 x3 x4 x5 x6 x7 x8).1, y ∈ pc.1.set :=
  View.cover_of_tiledL (kernelRun c i arg3 harg3 arg4 harg4 arg5 harg5 arg6 harg6 arg7 harg7 arg8 harg8 arg9 harg9 arg10 harg10 arg11 harg11 arg12 harg12 u0 u1 x0 x1 x2 x3 x4 x5 x6 x7 x8).1 S128x128.size (by sl_kernel_rfl) y

/-- What the body leaves in the output's staging buffer. -/
def outOf (c : Dev nD) (i : grid0.Coords) (arg3 : Memref sig .tc .smem S32 .f32) (harg3 : arg3.IsWhole) (arg4 : Memref sig .tc .vmem S128x4096 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x1024 .bf16) (harg10 : arg10.IsWhole) (arg11 : Memref sig .tc .vmem S32x128x384 .f32) (harg11 : arg11.IsWhole) (arg12 : Memref sig .tc .vmem S128x4096 .bf16) (harg12 : arg12.IsWhole)
    (u0 : TbBuf (F := F) c tb0) (u1 : TbBuf (F := F) c tb1) (x0 : Vec F S32 .f32) (x1 : Vec F S128x4096 .bf16) (x2 : Vec F S128x1024 .bf16) (x3 : Vec F S128x1024 .bf16) (x4 : Vec F S128x1024 .bf16) (x5 : Vec F S128x1024 .bf16) (x6 : Vec F S128x1024 .bf16) (x7 : Vec F S128x1024 .bf16) (x8 : Vec F S32x128x384 .f32) : Vec F S128x4096 .bf16 :=
  VO.read (Elt F) (VO.writes (Elt F) VO.junk (kernelRun c i arg3 harg3 arg4 harg4 arg5 harg5 arg6 harg6 arg7 harg7 arg8 harg8 arg9 harg9 arg10 harg10 arg11 harg11 arg12 harg12 u0 u1 x0 x1 x2 x3 x4 x5 x6 x7 x8).1)

/-- What the output's staging buffer holds after point `t`. -/
def outsAt (c : Dev nD) (t : Fin (cfgM m).N) : Vec F S128x4096 .bf16 :=
  outOf c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (tbl m 0) (tbl m 1) (iblk m c 0 t) (X1 m c t) (iblk m c 2 t) (iblk m c 3 t) (iblk m c 4 t) (iblk m c 5 t) (iblk m c 6 t) (iblk m c 7 t) (iblk m c 8 t)

/-- The pipeline's proof data: each input's buffer keeps its block, the output's holds `outsAt`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => X1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outsAt m c t
  Φ _ := iprop(Pipeline.ΦA spec0 c ∗ Pipeline.ΦT pre0 (tbl m) c)
  q w := match w with
    | ⟨9, _⟩ => fullShare
    | w => Pipeline.shareOf spec0 w
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = X1 m c t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = iblk m c 3 t := by dsimp only [dats]; try rfl
theorem after4 (c : Dev nD) (t : Fin (cfgM m).N) : (dats m 0 c).after 4 t = iblk m c 4 t := by dsimp only [dats]; try rfl
theorem after5 (c : Dev nD) (t : Fin (cfgM m).N) : (dats m 0 c).after 5 t = iblk m c 5 t := by dsimp only [dats]; try rfl
theorem after6 (c : Dev nD) (t : Fin (cfgM m).N) : (dats m 0 c).after 6 t = iblk m c 6 t := by dsimp only [dats]; try rfl
theorem after7 (c : Dev nD) (t : Fin (cfgM m).N) : (dats m 0 c).after 7 t = iblk m c 7 t := by dsimp only [dats]; try rfl
theorem after8 (c : Dev nD) (t : Fin (cfgM m).N) : (dats m 0 c).after 8 t = iblk m c 8 t := by dsimp only [dats]; try rfl
theorem after9 (c : Dev nD) (t : Fin (cfgM m).N) : (dats m 0 c).after 9 t = outsAt m c t := by dsimp only [dats]; try rfl
theorem before0 (c : Dev nD) (t : Fin (cfgM m).N) (d) : (dats m 0 c).before 0 t d = iblk m c 0 t :=
  before0_of m (dats m 0 c) (A_eq m c 0) (after0 m c) t d
theorem before1 (c : Dev nD) (t : Fin (cfgM m).N) (d) : (dats m 0 c).before 1 t d = X1 m c t :=
  before1_of m (dats m 0 c) (A_eq m c 1) (after1 m c) t d
theorem before2 (c : Dev nD) (t : Fin (cfgM m).N) (d) : (dats m 0 c).before 2 t d = iblk m c 2 t :=
  before2_of m (dats m 0 c) (A_eq m c 2) (after2 m c) t d
theorem before3 (c : Dev nD) (t : Fin (cfgM m).N) (d) : (dats m 0 c).before 3 t d = iblk m c 3 t :=
  before3_of m (dats m 0 c) (A_eq m c 3) (after3 m c) t d
theorem before4 (c : Dev nD) (t : Fin (cfgM m).N) (d) : (dats m 0 c).before 4 t d = iblk m c 4 t :=
  before4_of m (dats m 0 c) (A_eq m c 4) (after4 m c) t d
theorem before5 (c : Dev nD) (t : Fin (cfgM m).N) (d) : (dats m 0 c).before 5 t d = iblk m c 5 t :=
  before5_of m (dats m 0 c) (A_eq m c 5) (after5 m c) t d
theorem before6 (c : Dev nD) (t : Fin (cfgM m).N) (d) : (dats m 0 c).before 6 t d = iblk m c 6 t :=
  before6_of m (dats m 0 c) (A_eq m c 6) (after6 m c) t d
theorem before7 (c : Dev nD) (t : Fin (cfgM m).N) (d) : (dats m 0 c).before 7 t d = iblk m c 7 t :=
  before7_of m (dats m 0 c) (A_eq m c 7) (after7 m c) t d
theorem before8 (c : Dev nD) (t : Fin (cfgM m).N) (d) : (dats m 0 c).before 8 t d = iblk m c 8 t :=
  before8_of m (dats m 0 c) (A_eq m c 8) (after8 m c) t d

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare ((dats m 0 c).before 6 t d))
    ∗ (∃ d, owns (c : Thread nD τ) (ms7 m t) fullShare ((dats m 0 c).before 7 t d))
    ∗ (∃ d, owns (c : Thread nD τ) (ms8 m t) fullShare ((dats m 0 c).before 8 t d))
    ∗ (∃ d, owns (c : Thread nD τ) (ms9 m t) fullShare ((dats m 0 c).before 9 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t)
    ∗ owns (c : Thread nD τ) (ms5 m t) fullShare ((dats m 0 c).after 5 t)
    ∗ owns (c : Thread nD τ) (ms6 m t) fullShare ((dats m 0 c).after 6 t)
    ∗ owns (c : Thread nD τ) (ms7 m t) fullShare ((dats m 0 c).after 7 t)
    ∗ owns (c : Thread nD τ) (ms8 m t) fullShare ((dats m 0 c).after 8 t)
    ∗ owns (c : Thread nD τ) (ms9 m t) fullShare ((dats m 0 c).after 9 t))

set_option maxHeartbeats 1200000 in
/-- The body at any point. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  rw [show (dats m 0 c).Φ t.castSucc = iprop(Pipeline.ΦA spec0 c ∗ Pipeline.ΦT pre0 (tbl m) c) from rfl, PhiT_eq]
  unfold outsAt
  unfold outOf
  iintro ⟨⟨HΦ, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun c (grid0.coords t) _ _ _ _ _ _ _ _ _ _ _ _ _ _ _ _ _ _ _ _  (tbl m 0) (tbl m 1) (iblk m c 0 t) (X1 m c t) (iblk m c 2 t) (iblk m c 3 t) (iblk m c 4 t) (iblk m c 5 t) (iblk m c 6 t) (iblk m c 7 t) (iblk m c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HT0]; · iexact HT0
  isplitl [HT1]; · iexact HT1
  iintro ⟨H0, H1, H2, H3, H4, H5, H6, H7, H8, ⟨%e9, H9⟩, HT0, HT1⟩
  isplitl [HΦ HT0 HT1]
  · isplitl [HΦ]
    · iexact HΦ
    isplitl [HT0]
    · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover c _ _ _ _ _ _ _ _ _ _ _ _ _ _ _ _ _ _ _ _ _ _ _ _ _ _ _ _ _ _ _ _ )

theorem defs₀_row (t : Fin (cfgM m).N) :
    defs₀ (F := F) .tc (cfgM m).body ((cfgM m).bodyArgs t ((cfgM m).slots t)) = bodyAt m t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

/-- Input windows that stage one array hold equal parts of it. -/
theorem share (c : Dev nD) (w : Fin (cfgM m).W) (h : ((cfgM m).spec w).isOut = false) : (dats m 0 c).q w = Pipeline.shareOf (cfgM m).spec w := by
  revert h; revert w
  intro w; match w with
  | ⟨0, _⟩ => intro _; rfl
  | ⟨1, _⟩ => intro _; rfl
  | ⟨2, _⟩ => intro _; rfl
  | ⟨3, _⟩ => intro _; rfl
  | ⟨4, _⟩ => intro _; rfl
  | ⟨5, _⟩ => intro _; rfl
  | ⟨6, _⟩ => intro _; rfl
  | ⟨7, _⟩ => intro _; rfl
  | ⟨8, _⟩ => intro _; rfl
  | ⟨9, _⟩ => intro h; exact absurd (show true = false from h) (by decide)

set_option backward.isDefEq.respectTransparency.types false in
/-- The launch: every run ends, the pipeline's arrays at what the proof data computes, every other buffer as the region
    found it, every semaphore counter at zero. -/
theorem run_main_quiescent : θ_run defs (onTc (τ := τ) (main (F := F))) (s₀ m ρ)
    (fun r => (Pipeline.FramePost (Pipeline.pin pcfgs fun _ => adm m) (dats m) 0 (V m)) r ∧ r.2.sem = fun _ => 0) :=
  Pipeline.θ_run_frameP_shared (Q' := _) pcfgs (fun _ => adm m) (dats m) (0 : Fin 1) launch₀0 defs₀ Variants.none m ρ main
    (hbody := fun c => (body_obligation m c).loose) (hq := share m)
    (howed := fun _ _ => rfl) (V := V m) (hmain := hmain m Variants.none) (hA := A_eq m) (hpf := V_pre m) (hΦ := fun _ _ => rfl)

/-- The run with the output array named, the arguments unchanged and every counter at zero. -/
theorem run_blocks : θ_run defs (onTc (τ := τ) (main (F := F))) ⟨m, fun _ => 0, ρ⟩ (fun r => (∀ c : Dev nD,
      r.2.mem ((c : Thread nD τ).loc main_v22) = (dats m 0 c).arrAt 9 (cfgM m).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun r h => ⟨fun c => ⟨(h.1 c).1 9,
      ((h.1 c).2 main_arg0 (by decide : main_arg0 ∈ Pipeline.restRefs sig spec0)).trans (V_arg0 m c),
      ((h.1 c).2 main_arg1 (by decide : main_arg1 ∈ Pipeline.restRefs sig spec0)).trans (V_arg1 m c),
      ((h.1 c).1 0).trans (((dats m 0 c).arrAt_in 0 rfl _).trans ((A_eq m c 0).trans (V_arg2 m c)))⟩, h.2⟩)
    (run_main_quiescent m ρ)

/-- The frame: every run ends with the arguments unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h.1 c).2, h.2⟩) (run_blocks m ρ)

end Cert.KernelIdeal.Attn

end
-- ==== Proof.Attn.FrameIdeal.lean ====
module

public import proofs.«01_k».proof.Defs
public import proofs.«01_k».proof.Proof.Attn.Frame
public import proofs.«01_k».proof.Proof.AttnBits.Frame

/-! The frames of the attention's kernel, and what its one named constant stands for. -/

@[expose] public section

namespace Cert.Attn

open Idealize.ShloMosaic Idealize.ShloMosaic.TcCoe Idealize.SL.Sem

/-- At machine floats every execution ends, with the arguments as they were and every counter at zero. -/
theorem frame_kernel : Cert.quiescent_Kernel := fun m ρ _ => Cert.Kernel.Attn.frame_main (F := Bits) m ρ

/-- Over the extended reals every execution ends, with the arguments as they were and every counter at zero. -/
theorem frame_ideal : Cert.quiescent_KernelIdeal := fun m ρ _ => Cert.KernelIdeal.Attn.frame_main (F := Ideal) m ρ

/-- The name "mask" stands for minus infinity where the kernel writes its large negative constant. -/
theorem preserves : Cert.preserves_Kernel_KernelIdeal :=
  IdealRules.named_const.statement Cert.KernelIdeal.κ "mask" .f32 0xF149F2CA#32 ⊥ rfl

end Cert.Attn
-- ==== Proof.Attn.Head.lean ====
/- One query head of the attention block as a function of the blocks it loads, and the thirty-two stored pieces of the output block
   as thirty-two instances of it. -/
module

public import proofs.«01_k».proof.Proof.Attn.Frame
public import Idealize.ShloMosaic.Lib.Pipeline.ValueKit.Point

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F] [Named F]

/-- Three blocks of 128 rows, one under the other. -/
def stack3 (a b c : Vec F S128x128 .bf16) : FVec F S384x128 .bf16 :=
  concatenate S384x128 0 [⟨S128x128, shapeCast S128x128 a shapeCasts_S128x128_S128x128⟩, ⟨S128x128, shapeCast S128x128 b shapeCasts_S128x128_S128x128⟩, ⟨S128x128, shapeCast S128x128 c shapeCasts_S128x128_S128x128⟩] concatenates_S128x128_S128x128_S128x128_S384x128_d0

/-- The scores of four heads' queries, one head under the other, against the keys. -/
def scores (k : FVec F S384x128 .bf16) (a b c d : Vec F S128x128 .bf16) : FVec F S512x384 .f32 :=
  matmul dot_S512x128_S384x128_S512x384_1_1_0_0_n_n none
    (concatenate S512x128 0 [⟨S128x128, shapeCast S128x128 a shapeCasts_S128x128_S128x128⟩, ⟨S128x128, shapeCast S128x128 b shapeCasts_S128x128_S128x128⟩, ⟨S128x128, shapeCast S128x128 c shapeCasts_S128x128_S128x128⟩, ⟨S128x128, shapeCast S128x128 d shapeCasts_S128x128_S128x128⟩] concatenates_S128x128_S128x128_S128x128_S128x128_S512x128_d0)
    k (constant S512x384 .f32 0x00000000#32)

/-- One head's logits: its rows of the scores, scaled, with the bias and the edge's mask added. -/
def logit (off : Fin 2 → ℕ) (hs : S512x384.Slices off S128x384) (s : FVec F S512x384 .f32) (b : Vec F S1x128x384 .f32) (e : FVec F S1x384 .f32) :
    FVec F S128x384 .f32 :=
  addf (addf (mulf (extractStridedSlice S128x384 off s hs) (broadcast S128x384 (Scalar.ofBits .f32 0x3DB504F3#32)))
    (shapeCast S128x384 b shapeCasts_S1x128x384_S128x384)) (broadcastTo S128x384 e broadcasts_S1x384_S128x384)

/-- A row's maximum, the sink among its members. -/
def rowmax (l : FVec F S128x384 .f32) (z : Elt F .f32) : FVec F S128x1 .f32 :=
  maximumf (shapeCast S128x1 (multiReduction .maximumf [1] S128 l 0xFF800000#32 reduces_S128x384_S128 (.inl rfl) rfl) shapeCasts_S128_S128x1)
    (broadcast S128x1 z)

/-- A row's exponentials. -/
def rowexp (l : FVec F S128x384 .f32) (z : Elt F .f32) : FVec F S128x384 .f32 :=
  exp (subf l (broadcastTo S128x384 (rowmax l z) broadcasts_S128x1_S128x384))

/-- One head's probabilities. -/
def prob (l : FVec F S128x384 .f32) (z : Elt F .f32) : FVec F S128x384 .bf16 :=
  truncf .bf16 (divf (rowexp l z) (broadcastTo S128x384
    (addf (shapeCast S128x1 (multiReduction .add [1] S128 (rowexp l z) 0x00000000#32 reduces_S128x384_S128 (.inl rfl) rfl) shapeCasts_S128_S128x1)
      (exp (subf (broadcast S128x1 z) (rowmax l z)))) broadcasts_S128x1_S128x384)) bitsLt_bf16_f32

/-- Four heads' probabilities, one head under the other, times the values. -/
def mix (v : FVec F S384x128 .bf16) (a b c d : FVec F S128x384 .bf16) : FVec F S512x128 .f32 :=
  matmul dot_S512x384_S384x128_S512x128_1_0_0_1_n_n none
    (concatenate S512x384 0 [⟨S128x384, a⟩, ⟨S128x384, b⟩, ⟨S128x384, c⟩, ⟨S128x384, d⟩] concatenates_S128x384_S128x384_S128x384_S128x384_S512x384_d0)
    v (constant S512x128 .f32 0x00000000#32)

theorem kv_inb {k : ℕ} (hk : k < 8) : ∀ a, (![0, 128 * k] : Fin 2 → Nat) a + S128x128.size a ≤ S128x1024.size a := by
  intro a; fin_cases a <;> simp <;> omega
theorem q_inb {h : ℕ} (hh : h < 32) : ∀ a, (![0, 128 * h] : Fin 2 → Nat) a + S128x128.size a ≤ S128x4096.size a := by
  intro a; fin_cases a <;> simp <;> omega
theorem b_inb {h : ℕ} (hh : h < 32) : ∀ a, (![h, 0, 0] : Fin 3 → Nat) a + S1x128x384.size a ≤ S32x128x384.size a := by
  intro a; fin_cases a <;> simp <;> omega
theorem z_inb {h : ℕ} (hh : h < 32) : ∀ a, (![h] : Fin 1 → Nat) a + S1.size a ≤ S32.size a := by
  intro a; fin_cases a; simp; omega
theorem o_slices {g : ℕ} (hg : g < 4) : S512x128.Slices ![128 * g, 0] S128x128 :=
  (by decide : ∀ g : Fin 4, S512x128.Slices ![128 * g.val, 0] S128x128) ⟨g, hg⟩

/-- Key-value head `k`'s columns of a staged block of keys or values. -/
def kvOf (M : Memref sig .tc .vmem S128x1024 .bf16) (hM : M.IsWhole) (x : Vec F S128x1024 .bf16) (k : ℕ) (hk : k < 8) : Vec F S128x128 .bf16 :=
  View.readAt (Elt F) M.view (Rect.unit (s := S128x1024) ![0, 128 * k] S128x128.size (kv_inb hk)).toLoadRect (hM.unread x)
/-- Query head `h`'s columns of the staged block of queries. -/
def qOf (M : Memref sig .tc .vmem S128x4096 .bf16) (hM : M.IsWhole) (x : Vec F S128x4096 .bf16) (h : ℕ) (hh : h < 32) : Vec F S128x128 .bf16 :=
  View.readAt (Elt F) M.view (Rect.unit (s := S128x4096) ![0, 128 * h] S128x128.size (q_inb hh)).toLoadRect (hM.unread x)
/-- Query head `h`'s bias. -/
def bOf (M : Memref sig .tc .vmem S32x128x384 .f32) (hM : M.IsWhole) (x : Vec F S32x128x384 .f32) (h : ℕ) (hh : h < 32) : Vec F S1x128x384 .f32 :=
  View.readAt (Elt F) M.view (Rect.unit (s := S32x128x384) ![h, 0, 0] S1x128x384.size (b_inb hh)).toLoadRect (hM.unread x)
/-- Query head `h`'s sink. -/
def zOf (M : Memref sig .tc .smem S32 .f32) (hM : M.IsWhole) (x : Vec F S32 .f32) (h : ℕ) (hh : h < 32) : Elt F .f32 :=
  View.readAt (Elt F) M.view (Rect.unit (s := S32) ![h] S1.size (z_inb hh)).toLoadRect (hM.unread x)
    (Shape.Idx.first (by rw [show (Rect.unit (s := S32) ![h] S1.size (z_inb hh)).shape = S1 from rfl]; decide))

variable (m : (ℓ : Loc nD τ sig) → Buf (Elt F) ℓ)

/-- The sinks at a grid point. -/
def zB (c : Dev nD) (t : Fin (cfgM m).N) : Vec F S32 .f32 := iblk m c 0 t
/-- The block of queries at a grid point. -/
def qB (c : Dev nD) (t : Fin (cfgM m).N) : Vec F S128x4096 .bf16 := X1 m c t
/-- The previous block of keys at a grid point. -/
def kP (c : Dev nD) (t : Fin (cfgM m).N) : Vec F S128x1024 .bf16 := iblk m c 2 t
/-- The point's own block of keys at a grid point. -/
def kO (c : Dev nD) (t : Fin (cfgM m).N) : Vec F S128x1024 .bf16 := iblk m c 3 t
/-- The next block of keys at a grid point. -/
def kN (c : Dev nD) (t : Fin (cfgM m).N) : Vec F S128x1024 .bf16 := iblk m c 4 t
/-- The previous block of values at a grid point. -/
def vP (c : Dev nD) (t : Fin (cfgM m).N) : Vec F S128x1024 .bf16 := iblk m c 5 t
/-- The point's own block of values at a grid point. -/
def vO (c : Dev nD) (t : Fin (cfgM m).N) : Vec F S128x1024 .bf16 := iblk m c 6 t
/-- The next block of values at a grid point. -/
def vN (c : Dev nD) (t : Fin (cfgM m).N) : Vec F S128x1024 .bf16 := iblk m c 7 t
/-- The bias at a grid point. -/
def bB (c : Dev nD) (t : Fin (cfgM m).N) : Vec F S32x128x384 .f32 := iblk m c 8 t

/-- The edge's mask at a grid point. -/
def edgeOf (c : Dev nD) (t : Fin (cfgM m).N) : FVec F S1x384 .f32 := kernelRun.sl.r_2 c (grid0.coords t) (tbl m 0) (tbl m 1)

/-- Query head `4k+g`'s probabilities at a grid point. -/
def probOf (c : Dev nD) (t : Fin (cfgM m).N) (k : ℕ) (hk : k < 8) (g : ℕ) (hg : g < 4) (off : Fin 2 → ℕ) (hs : S512x384.Slices off S128x384) : FVec F S128x384 .bf16 :=
  prob (logit off hs
      (scores (stack3 (kvOf (ms2 m t) (hs2 m t) (kP m c t) k hk) (kvOf (ms3 m t) (hs3 m t) (kO m c t) k hk) (kvOf (ms4 m t) (hs4 m t) (kN m c t) k hk))
        (qOf (ms1 m t) (hs1 m t) (qB m c t) (4 * k + 0) (by omega)) (qOf (ms1 m t) (hs1 m t) (qB m c t) (4 * k + 1) (by omega))
        (qOf (ms1 m t) (hs1 m t) (qB m c t) (4 * k + 2) (by omega)) (qOf (ms1 m t) (hs1 m t) (qB m c t) (4 * k + 3) (by omega)))
      (bOf (ms8 m t) (hs8 m t) (bB m c t) (4 * k + g) (by omega)) (edgeOf m c t))
    (zOf (ms0 m t) (hs0 m t) (zB m c t) (4 * k + g) (by omega))

/-- Query head `4k+g`'s output at a grid point. -/
def headOf (c : Dev nD) (t : Fin (cfgM m).N) (k : ℕ) (hk : k < 8) (g : ℕ) (hg : g < 4) : FVec F S128x128 .bf16 :=
  truncf .bf16 (extractStridedSlice S128x128 ![128 * g, 0]
    (mix (stack3 (kvOf (ms5 m t) (hs5 m t) (vP m c t) k hk) (kvOf (ms6 m t) (hs6 m t) (vO m c t) k hk) (kvOf (ms7 m t) (hs7 m t) (vN m c t) k hk))
      (probOf m c t k hk 0 (by decide) ![0, 0] slices_S512x384_o0_0_S128x384) (probOf m c t k hk 1 (by decide) ![128, 0] slices_S512x384_o128_0_S128x384)
      (probOf m c t k hk 2 (by decide) ![256, 0] slices_S512x384_o256_0_S128x384) (probOf m c t k hk 3 (by decide) ![384, 0] slices_S512x384_o384_0_S128x384))
    (o_slices hg)) bitsLt_bf16_f32

/-- The output block's element at `y`: of the head its column belongs to. -/
def outVal (c : Dev nD) (t : Fin (cfgM m).N) (y : S128x4096.Idx) : Elt F .bf16 :=
  headOf m c t ((y 1 : ℕ) / 512) (by have : (y 1 : ℕ) < 4096 := (y 1).isLt; omega) ((y 1 : ℕ) % 512 / 128) (by omega)
    (ix2 (y 0) ⟨(y 1 : ℕ) % 128, Nat.mod_lt _ (by decide)⟩)

/-- A stored piece that is a head's output is the output block at its place. -/
theorem piece (c : Dev nD) (t : Fin (cfgM m).N) (P : FVec F S128x128 .bf16) (k : ℕ) (hk : k < 8) (g : ℕ) (hg : g < 4)
    (hP : P = headOf m c t k hk g hg) (x : S128x128.Idx) (y : S128x4096.Idx) (h0 : (y 0 : ℕ) = x 0) (h1 : (y 1 : ℕ) = 512 * k + 128 * g + x 1) :
    P x = outVal m c t y := by
  subst hP
  have hx : (x 1 : ℕ) < 128 := (x 1).isLt
  unfold outVal
  have e1 : (y 1 : ℕ) / 512 = k := by omega
  have e2 : (y 1 : ℕ) % 512 / 128 = g := by omega
  have e3 : (ix2 (y 0) ⟨(y 1 : ℕ) % 128, Nat.mod_lt _ (by decide)⟩ : S128x128.Idx) = x := by
    blk_ext
  simp only [e1, e2, e3]

/-- The same, of a piece named by the column it is stored at. -/
theorem piece_at (c : Dev nD) (t : Fin (cfgM m).N) (P : FVec F S128x128 .bf16) (x : S128x128.Idx) (y : S128x4096.Idx) (off : ℕ)
    (h0 : (y 0 : ℕ) = x 0) (h1 : (y 1 : ℕ) = off + x 1) (hk : off / 512 < 8) (ho : off % 128 = 0)
    (hP : P = headOf m c t (off / 512) hk (off % 512 / 128) (by omega)) : P x = outVal m c t y :=
  piece m c t P _ hk _ _ hP x y h0 (by omega)

set_option maxHeartbeats 2000000 in
/-- What the body leaves in the output's staging buffer. -/
theorem outsAt_eq (c : Dev nD) (t : Fin (cfgM m).N) (y : S128x4096.Idx) : outsAt m c t y = outVal m c t y := by
  unfold outsAt outOf
  refine (congrFun (View.read_writes_eq_canon _ _ _ (cover c (grid0.coords t) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (tbl m 0) (tbl m 1) (iblk m c 0 t) (X1 m c t) (iblk m c 2 t) (iblk m c 3 t) (iblk m c 4 t) (iblk m c 5 t) (iblk m c 6 t) (iblk m c 7 t) (iblk m c 8 t))) y).trans ?_
  unfold kernelRun
  dsimp only
  canon_tiles x h
  all_goals
    first
      | refine piece_at m c t _ x y _ h0 h1 (by decide) (by decide) ?_
      | refine piece_at m c t _ x y 0 h0 (h1.trans (Nat.zero_add _).symm) (by decide) (by decide) ?_
    simp only [Nat.reduceDiv, Nat.reduceMod, Nat.zero_div, Nat.zero_mod]
    rfl

end Cert.KernelIdeal.Attn
end
-- ==== Proof.Attn.Softmax.lean ====
/- Softmax attention with a sink over the extended reals: one row's result, and when two spellings of it agree. -/
module

public import Idealize.ShloMosaic.Lib.Pipeline.ValueKit.Point
public import Idealize.ShloMosaic.Lib.Claim

@[expose] public section

noncomputable section

namespace Cert.Attn

open Idealize.ShloMosaic

/-- The pattern of negative infinity. -/
abbrev negInf : EReal := Ideal.ofBits .f32 0xFF800000#32

/-- Softmax attention over `n` keys with a sink: the logits `L`, the sink `z`, one column `W` of the values. -/
def att {n : ℕ} (L : Fin n → EReal) (z : EReal) (W : Fin n → EReal) : EReal :=
  ∑ j, Ideal.div (Ideal.exp (L j - max (Finset.fold max negInf L Finset.univ) z))
    (∑ x, Ideal.exp (L x - max (Finset.fold max negInf L Finset.univ) z)
      + Ideal.exp (z - max (Finset.fold max negInf L Finset.univ) z)) * W j

theorem negInf_eq : negInf = ⊥ := by
  unfold negInf
  simp only [Ideal.ofBits, Ideal.ieee]
  rw [if_pos (by decide), if_pos (by decide), if_pos (by decide)]

theorem fold_eq {n : ℕ} (L : Fin n → EReal) : Finset.fold max negInf L Finset.univ = Finset.univ.sup L := by
  rw [negInf_eq]; rfl

theorem exp_nonneg (x : EReal) : 0 ≤ Ideal.exp x := by
  induction x using EReal.rec with
  | bot => simp
  | coe r => simp [Real.exp_nonneg]
  | top => simp

/-- The denominator is not zero where no logit is infinite above and the sink is real. -/
theorem den_ne_zero {n : ℕ} (L : Fin n → EReal) (z : EReal) (hL : ∀ j, L j ≠ ⊤) (hz : z ≠ ⊤) (hz' : z ≠ ⊥) :
    (∑ x, Ideal.exp (L x - max (Finset.univ.sup L) z) + Ideal.exp (z - max (Finset.univ.sup L) z)) ≠ 0 := by
  have hs : Finset.univ.sup L < ⊤ := (Finset.sup_lt_iff (by simp)).mpr fun j _ => lt_top_iff_ne_top.mpr (hL j)
  have hM : max (Finset.univ.sup L) z ≠ ⊤ := (max_lt hs (lt_top_iff_ne_top.mpr hz)).ne
  have hM' : max (Finset.univ.sup L) z ≠ ⊥ := fun h => hz' (le_bot_iff.mp (h ▸ le_max_right _ _))
  generalize max (Finset.univ.sup L) z = M at hM hM'
  lift M to ℝ using ⟨hM, hM'⟩
  lift z to ℝ using ⟨hz, hz'⟩
  have h1 : 0 < Ideal.exp ((z : EReal) - (M : EReal)) := by
    rw [← EReal.coe_sub, Ideal.exp_coe]; exact EReal.coe_pos.mpr (Real.exp_pos _)
  exact (lt_of_lt_of_le h1 (le_add_of_nonneg_left (Finset.sum_nonneg fun _ _ => exp_nonneg _))).ne'

/-- The result does not depend on the values of keys whose logit is negative infinity. -/
theorem att_congr {n : ℕ} (L L' : Fin n → EReal) (z : EReal) (W W' : Fin n → EReal) (h : ∀ j, L j = L' j) (hL : ∀ j, L j ≠ ⊤) (hz : z ≠ ⊤) (hz' : z ≠ ⊥)
    (hW : ∀ j, L j ≠ ⊥ → W j = W' j) : att L z W = att L' z W' := by
  obtain rfl : L = L' := funext h
  unfold att
  refine Finset.sum_congr rfl fun j _ => ?_
  by_cases hj : L j = ⊥
  · have hd := den_ne_zero L z hL hz hz'
    rw [fold_eq, hj, EReal.bot_sub]
    unfold Ideal.div
    rw [if_neg hd]
    simp
  · rw [hW j hj]

/-- The reference's spelling: the sink the last of the row's logits, the values in front. -/
theorem att_last {n : ℕ} (X : Fin (n + 1) → EReal) (W : Fin n → EReal) :
    (∑ x : Fin n, W x * Ideal.div (Ideal.exp (X x.castSucc - max negInf (Finset.fold max negInf X Finset.univ)))
      (0 + ∑ j, Ideal.exp (X j - max negInf (Finset.fold max negInf X Finset.univ))))
      = att (fun j => X j.castSucc) (X (Fin.last n)) W := by
  have hM : max negInf (Finset.fold max negInf X Finset.univ) = max (Finset.fold max negInf (fun j : Fin n => X j.castSucc) Finset.univ) (X (Fin.last n)) := by
    rw [fold_eq, fold_eq, negInf_eq, max_eq_right bot_le, Fin.univ_castSuccEmb, Finset.sup_cons, Finset.sup_map, max_comm]
    rfl
  unfold att
  rw [hM, zero_add, Fin.sum_univ_castSucc]
  exact Finset.sum_congr rfl fun x _ => mul_comm _ _

end Cert.Attn
end
-- ==== Proof.Attn.Point.lean ====
/- One query head's output at an element, over the extended reals. -/
module

public import proofs.«01_k».proof.Proof.Attn.Head
public import proofs.«01_k».proof.Proof.Attn.Softmax
public import Idealize.ShloMosaic.Lib.WholeRead

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.ShloMosaic.Pipeline (Dat Cfg Window BodyObligation cellOf)

theorem p_slices {g : ℕ} (hg : g < 4) : S512x384.Slices ![128 * g, 0] S128x384 :=
  (by decide : ∀ g : Fin 4, S512x384.Slices ![128 * g.val, 0] S128x384) ⟨g, hg⟩

/-- Which of three blocks a key is in. -/
def pick3 {α : Type} (a b c : Fin 128 → α) (j : Fin 384) : α :=
  if h : (j : ℕ) < 128 then a ⟨j, h⟩ else if h : (j : ℕ) - 128 < 128 then b ⟨j - 128, h⟩ else c ⟨j - 128 - 128, by omega⟩

theorem stack3_apply (a b c : Vec Ideal S128x128 .bf16) (j : Fin 384) (d : Fin 128) :
    stack3 a b c (ix2 j d) = pick3 (fun i => a (ix2 i d)) (fun i => b (ix2 i d)) (fun i => c (ix2 i d)) j := by
  pointwise [stack3]
  rfl

theorem rowmax_apply (l : FVec Ideal S128x384 .f32) (z : Elt Ideal .f32) (i : Fin 128) (j : Fin 1) :
    rowmax l z (ix2 i j) = max (Finset.fold max (Ideal.ofBits .f32 0xFF800000#32) (fun x => l (ix2 i x)) Finset.univ) z := by
  pointwise [rowmax]

theorem rowexp_apply (l : FVec Ideal S128x384 .f32) (z : Elt Ideal .f32) (i : Fin 128) (j : Fin 384) :
    rowexp l z (ix2 i j) = Ideal.exp (l (ix2 i j) - rowmax l z (ix2 i 0)) := by
  pointwise [rowexp]

theorem prob_apply (l : FVec Ideal S128x384 .f32) (z : Elt Ideal .f32) (i : Fin 128) (j : Fin 384) :
    prob l z (ix2 i j) = Ideal.div (rowexp l z (ix2 i j)) (∑ x, rowexp l z (ix2 i x) + Ideal.exp (z - rowmax l z (ix2 i 0))) := by
  pointwise [prob]

/-- The four heads' products at an element: the head the row belongs to. -/
theorem mix_apply (v : FVec Ideal S384x128 .bf16) (p : (g : ℕ) → g < 4 → FVec Ideal S128x384 .bf16) (g : ℕ) (hg : g < 4) (i : Fin 128) (d : Fin 128)
    (r : Fin 512) (hr : (r : ℕ) = 128 * g + i) :
    mix v (p 0 (by decide)) (p 1 (by decide)) (p 2 (by decide)) (p 3 (by decide)) (ix2 r d) = ∑ x, p g hg (ix2 i x) * v (ix2 x d) := by
  pointwise [mix]
  refine Finset.sum_congr rfl fun x _ => congrArg (· * _) ?_
  have hi := i.isLt
  interval_cases g
  · rw [dif_pos (by omega)]; congr 2; apply Fin.ext; dsimp only; omega
  · rw [dif_neg (by omega), dif_pos (by omega)]; congr 2; apply Fin.ext; dsimp only; omega
  · rw [dif_neg (by omega), dif_neg (by omega), dif_pos (by omega)]; congr 2; apply Fin.ext; dsimp only; omega
  · rw [dif_neg (by omega), dif_neg (by omega), dif_neg (by omega)]; congr 2; apply Fin.ext; dsimp only; omega

/-- The four heads' scores at an element: the head the row belongs to. -/
theorem scores_apply (k : FVec Ideal S384x128 .bf16) (p : (g : ℕ) → g < 4 → Vec Ideal S128x128 .bf16) (g : ℕ) (hg : g < 4) (i : Fin 128) (j : Fin 384)
    (r : Fin 512) (hr : (r : ℕ) = 128 * g + i) :
    scores k (p 0 (by decide)) (p 1 (by decide)) (p 2 (by decide)) (p 3 (by decide)) (ix2 r j) = ∑ x, p g hg (ix2 i x) * k (ix2 j x) := by
  pointwise [scores]
  refine Finset.sum_congr rfl fun x _ => congrArg (· * _) ?_
  have hi := i.isLt
  interval_cases g
  · rw [dif_pos (by omega)]; congr 2; apply Fin.ext; dsimp only; omega
  · rw [dif_neg (by omega), dif_pos (by omega)]; congr 2; apply Fin.ext; dsimp only; omega
  · rw [dif_neg (by omega), dif_neg (by omega), dif_pos (by omega)]; congr 2; apply Fin.ext; dsimp only; omega
  · rw [dif_neg (by omega), dif_neg (by omega), dif_neg (by omega)]; congr 2; apply Fin.ext; dsimp only; omega

theorem logit_apply (off : Fin 2 → ℕ) (hs : S512x384.Slices off S128x384) (s : FVec Ideal S512x384 .f32) (b : Vec Ideal S1x128x384 .f32) (e : FVec Ideal S1x384 .f32) (i : Fin 128) (j : Fin 384)
    (r : Fin 512) (hr : (r : ℕ) = off 0 + i) (h1 : off 1 = 0) :
    logit off hs s b e (ix2 i j) = s (ix2 r j) * Ideal.ofBits .f32 0x3DB504F3#32 + b (ix3 0 i j) + e (ix2 0 j) := by
  pointwise [logit]
  congr 3
  blk_ext

theorem kvOf_apply (M : Memref sig .tc .vmem S128x1024 .bf16) (hM : M.IsWhole) (x : Vec Ideal S128x1024 .bf16) (k : ℕ) (hk : k < 8) (i d : Fin 128) :
    kvOf M hM x k hk (ix2 i d) = x (ix2 i ⟨128 * k + d, by omega⟩) := by
  unfold kvOf
  refine (Memref.IsWhole.readAt_unread hM x _ _).trans (congrArg x (funext fun a => Fin.ext ?_))
  fin_cases a <;> simp [Rect.unit, LoadRect.idx]

theorem qOf_apply (M : Memref sig .tc .vmem S128x4096 .bf16) (hM : M.IsWhole) (x : Vec Ideal S128x4096 .bf16) (k : ℕ) (hk : k < 32) (i d : Fin 128) :
    qOf M hM x k hk (ix2 i d) = x (ix2 i ⟨128 * k + d, by omega⟩) := by
  unfold qOf
  refine (Memref.IsWhole.readAt_unread hM x _ _).trans (congrArg x (funext fun a => Fin.ext ?_))
  fin_cases a <;> simp [Rect.unit, LoadRect.idx]

theorem bOf_apply (M : Memref sig .tc .vmem S32x128x384 .f32) (hM : M.IsWhole) (x : Vec Ideal S32x128x384 .f32) (k : ℕ) (hk : k < 32) (i : Fin 128) (j : Fin 384) :
    bOf M hM x k hk (ix3 0 i j) = x (ix3 ⟨k, hk⟩ i j) := by
  unfold bOf
  refine (Memref.IsWhole.readAt_unread hM x _ _).trans (congrArg x (funext fun a => Fin.ext ?_))
  fin_cases a <;> simp [Rect.unit, LoadRect.idx]

theorem zOf_apply (M : Memref sig .tc .smem S32 .f32) (hM : M.IsWhole) (x : Vec Ideal S32 .f32) (k : ℕ) (hk : k < 32) :
    zOf M hM x k hk = x (ix1 ⟨k, hk⟩) := by
  unfold zOf
  refine (Memref.IsWhole.readAt_unread hM x _ _).trans (congrArg x (funext fun a => Fin.ext ?_))
  fin_cases a <;> simp [Rect.unit, LoadRect.idx]

variable (m : (ℓ : Loc nD τ sig) → Buf (Elt Ideal) ℓ)

/-- Query head `4k+g`'s logits at a grid point. -/
def logitAt (c : Dev nD) (t : Fin (cfgM m).N) (k : ℕ) (hk : k < 8) (g : ℕ) (hg : g < 4) (i : Fin 128) (j : Fin 384) : EReal :=
  (∑ x : Fin 128, qB m c t (ix2 i ⟨128 * (4 * k + g) + x, by omega⟩)
      * pick3 (fun r => kP m c t (ix2 r ⟨128 * k + x, by omega⟩)) (fun r => kO m c t (ix2 r ⟨128 * k + x, by omega⟩)) (fun r => kN m c t (ix2 r ⟨128 * k + x, by omega⟩)) j)
    * Ideal.ofBits .f32 0x3DB504F3#32 + bB m c t (ix3 ⟨4 * k + g, by omega⟩ i j) + edgeOf m c t (ix2 0 j)

theorem logitAt_eq (c : Dev nD) (t : Fin (cfgM m).N) (k : ℕ) (hk : k < 8) (g : ℕ) (hg : g < 4) (off : Fin 2 → ℕ) (hs : S512x384.Slices off S128x384)
    (h0 : off 0 = 128 * g) (h1 : off 1 = 0) (i : Fin 128) (j : Fin 384) :
    logit off hs
      (scores (stack3 (kvOf (ms2 m t) (hs2 m t) (kP m c t) k hk) (kvOf (ms3 m t) (hs3 m t) (kO m c t) k hk) (kvOf (ms4 m t) (hs4 m t) (kN m c t) k hk))
        (qOf (ms1 m t) (hs1 m t) (qB m c t) (4 * k + 0) (by omega)) (qOf (ms1 m t) (hs1 m t) (qB m c t) (4 * k + 1) (by omega))
        (qOf (ms1 m t) (hs1 m t) (qB m c t) (4 * k + 2) (by omega)) (qOf (ms1 m t) (hs1 m t) (qB m c t) (4 * k + 3) (by omega)))
      (bOf (ms8 m t) (hs8 m t) (bB m c t) (4 * k + g) (by omega)) (edgeOf m c t) (ix2 i j) = logitAt m c t k hk g hg i j := by
  rw [logit_apply off hs _ _ _ i j ⟨128 * g + i, by omega⟩ (by simp [h0]) h1,
    scores_apply _ (fun g hg => qOf (ms1 m t) (hs1 m t) (qB m c t) (4 * k + g) (by omega)) g hg i j ⟨128 * g + i, by omega⟩ rfl, bOf_apply]
  unfold logitAt
  simp only [qOf_apply, stack3_apply, kvOf_apply]

theorem probOf_apply (c : Dev nD) (t : Fin (cfgM m).N) (k : ℕ) (hk : k < 8) (g : ℕ) (hg : g < 4) (off : Fin 2 → ℕ) (hs : S512x384.Slices off S128x384)
    (h0 : off 0 = 128 * g) (h1 : off 1 = 0) (i : Fin 128) (j : Fin 384) :
    probOf m c t k hk g hg off hs (ix2 i j) =
      Ideal.div (Ideal.exp (logitAt m c t k hk g hg i j - max (Finset.fold max (Ideal.ofBits .f32 0xFF800000#32) (logitAt m c t k hk g hg i) Finset.univ) (zB m c t (ix1 ⟨4 * k + g, by omega⟩))))
        (∑ x, Ideal.exp (logitAt m c t k hk g hg i x - max (Finset.fold max (Ideal.ofBits .f32 0xFF800000#32) (logitAt m c t k hk g hg i) Finset.univ) (zB m c t (ix1 ⟨4 * k + g, by omega⟩)))
        + Ideal.exp (zB m c t (ix1 ⟨4 * k + g, by omega⟩) - max (Finset.fold max (Ideal.ofBits .f32 0xFF800000#32) (logitAt m c t k hk g hg i) Finset.univ) (zB m c t (ix1 ⟨4 * k + g, by omega⟩)))) := by
  unfold probOf
  rw [prob_apply]
  simp only [rowexp_apply, rowmax_apply, logitAt_eq m c t k hk g hg off hs h0 h1, zOf_apply]

/-- Query head `4k+g`'s output at an element. -/
theorem headOf_apply (c : Dev nD) (t : Fin (cfgM m).N) (k : ℕ) (hk : k < 8) (g : ℕ) (hg : g < 4) (i d : Fin 128) :
    headOf m c t k hk g hg (ix2 i d) = Cert.Attn.att (logitAt m c t k hk g hg i) (zB m c t (ix1 ⟨4 * k + g, by omega⟩))
      (pick3 (fun r => vP m c t (ix2 r ⟨128 * k + d, by omega⟩)) (fun r => vO m c t (ix2 r ⟨128 * k + d, by omega⟩)) (fun r => vN m c t (ix2 r ⟨128 * k + d, by omega⟩))) := by
  unfold headOf
  pointwise []
  rw [mix_apply _ (fun g hg => probOf m c t k hk g hg ![128 * g, 0] (p_slices hg)) g hg i d _ (by simp)]
  unfold Cert.Attn.att
  refine Finset.sum_congr rfl fun x _ => ?_
  rw [probOf_apply m c t k hk g hg _ _ rfl rfl, stack3_apply]
  simp only [kvOf_apply]

end Cert.KernelIdeal.Attn
end
-- ==== Proof.Attn.Blocks.lean ====
/- The blocks a grid point loads, as the arrays' elements. -/
module

public import proofs.«01_k».proof.Proof.Attn.Point

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.ShloMosaic.Pipeline (Dat Cfg Window BodyObligation cellOf)

variable (m : (ℓ : Loc nD τ sig) → Buf (Elt Ideal) ℓ)

/-- The projections' rows, as the region finds them: the prompts' and then the sample's. -/
def P (c : Dev nD) (n : Fin 32768) (x : Fin 6144) : EReal := (V m c main_v3 : S32768x6144.Idx → EReal) (ix2 n x)

/-- The index maps' values at every grid point. -/
theorem tr0 : ∀ t : Fin grid0.N, cc0_transform_0 (grid0.coords t) = ![0] := by decide +kernel
theorem tr1 : ∀ t : Fin grid0.N, cc0_transform_1 (grid0.coords t) = ![t.val, 0] := by decide +kernel
theorem tr8 : ∀ t : Fin grid0.N, cc0_transform_8 (grid0.coords t) = ![0, 0, 0] := by decide +kernel
theorem tr9 : ∀ t : Fin grid0.N, cc0_transform_9 (grid0.coords t) = ![t.val, 0] := by decide +kernel
theorem tr2 : ∀ t : Fin grid0.N, cc0_transform_2 (grid0.coords t) = ![t.val - 1, 4] := by decide +kernel
theorem tr3 : ∀ t : Fin grid0.N, cc0_transform_3 (grid0.coords t) = ![t.val, 4] := by decide +kernel
theorem tr4 : ∀ t : Fin grid0.N, cc0_transform_4 (grid0.coords t) = ![min (t.val + 1) 255, 4] := by decide +kernel
theorem tr5 : ∀ t : Fin grid0.N, cc0_transform_5 (grid0.coords t) = ![t.val - 1, 5] := by decide +kernel
theorem tr6 : ∀ t : Fin grid0.N, cc0_transform_6 (grid0.coords t) = ![t.val, 5] := by decide +kernel
theorem tr7 : ∀ t : Fin grid0.N, cc0_transform_7 (grid0.coords t) = ![min (t.val + 1) 255, 5] := by decide +kernel

theorem em0 (a : (pcfg0 (F := Ideal)).Adm) (t : Fin (cfg0 a).N) (y : S32.Idx) (b : Fin 1) :
    ((((cfg0 a).win 0).rect t).emb y b : ℕ) = (![0] : Fin 1 → ℕ) b * S32.size b + y b := by
  rw [← tr0 t]; exact ((cfg0 a).win 0).rect_emb_val t y b
theorem em8 (a : (pcfg0 (F := Ideal)).Adm) (t : Fin (cfg0 a).N) (y : S32x128x384.Idx) (b : Fin 3) :
    ((((cfg0 a).win 8).rect t).emb y b : ℕ) = (![0, 0, 0] : Fin 3 → ℕ) b * S32x128x384.size b + y b := by
  rw [← tr8 t]; exact ((cfg0 a).win 8).rect_emb_val t y b
theorem em9 (a : (pcfg0 (F := Ideal)).Adm) (t : Fin (cfg0 a).N) (y : S128x4096.Idx) (b : Fin 2) :
    ((((cfg0 a).win 9).rect t).emb y b : ℕ) = (![t.val, 0] : Fin 2 → ℕ) b * S128x4096.size b + y b := by
  rw [← tr9 t]; exact ((cfg0 a).win 9).rect_emb_val t y b
theorem em1 (a : (pcfg0 (F := Ideal)).Adm) (t : Fin (cfg0 a).N) (y : (((cfg0 a).win 1).xblock ((cfg0 a).grid.coords t)).Idx) (b : Fin 2) :
    ((((cfg0 a).win 1).rect t).emb y b : ℕ) = (![t.val, 0] : Fin 2 → ℕ) b * S128x4096.size b + y b := by
  rw [← tr1 t]; exact ((cfg0 a).win 1).rect_emb_val t y b

/-- A block of 128 rows and 1024 columns, read at an element. -/
theorem read_at (f : S32768x6144.Idx → EReal) (p : S32768x6144.Idx) (i : Fin 128) (x : Fin 1024) (r k : ℕ)
    (h : ∀ b : Fin 2, (p b : ℕ) = (![r, k] : Fin 2 → ℕ) b * S128x1024.size b + ix2 i x b)
    (n : Fin 32768) (hn : (n : ℕ) = r * 128 + i) (z : Fin 6144) (hz : (z : ℕ) = k * 1024 + x) : f p = f (ix2 n z) := by
  refine congrArg f (funext fun b => Fin.ext ?_)
  refine (h b).trans ?_
  fin_cases b
  · exact hn.symm
  · exact hz.symm

theorem em2 (a : (pcfg0 (F := Ideal)).Adm) (t : Fin (cfg0 a).N) (y : S128x1024.Idx) (b : Fin 2) :
    ((((cfg0 a).win 2).rect t).emb y b : ℕ) = (![t.val - 1, 4] : Fin 2 → ℕ) b * S128x1024.size b + y b := by
  rw [← tr2 t]; exact ((cfg0 a).win 2).rect_emb_val t y b
theorem rd2 (a : (pcfg0 (F := Ideal)).Adm) (c : Dev nD) (t : Fin (cfg0 a).N) (f : Buf (Elt Ideal) ((c : Thread nD τ).loc main_v3)) (i : Fin 128) (x : Fin 1024)
    (n : Fin 32768) (hn : (n : ℕ) = 128 * (t.val - 1) + i) (z : Fin 6144) (hz : (z : ℕ) = 4096 + x) :
    View.read (Elt Ideal) (((cfg0 a).win 2).blk t).view f (ix2 i x) = f (ix2 n z) :=
  read_at f _ i x _ _ (em2 a t (ix2 i x)) n (by omega) z (by omega)
theorem kP_apply (c : Dev nD) (t : Fin (cfgM m).N) (i : Fin 128) (x : Fin 1024) (n : Fin 32768) (hn : (n : ℕ) = 128 * (t.val - 1) + i) (z : Fin 6144) (hz : (z : ℕ) = 4096 + x) :
    kP m c t (ix2 i x) = P m c n z :=
  rd2 (adm m) c t (V m c main_v3) i x n hn z hz
theorem em3 (a : (pcfg0 (F := Ideal)).Adm) (t : Fin (cfg0 a).N) (y : S128x1024.Idx) (b : Fin 2) :
    ((((cfg0 a).win 3).rect t).emb y b : ℕ) = (![t.val, 4] : Fin 2 → ℕ) b * S128x1024.size b + y b := by
  rw [← tr3 t]; exact ((cfg0 a).win 3).rect_emb_val t y b
theorem rd3 (a : (pcfg0 (F := Ideal)).Adm) (c : Dev nD) (t : Fin (cfg0 a).N) (f : Buf (Elt Ideal) ((c : Thread nD τ).loc main_v3)) (i : Fin 128) (x : Fin 1024)
    (n : Fin 32768) (hn : (n : ℕ) = 128 * (t.val) + i) (z : Fin 6144) (hz : (z : ℕ) = 4096 + x) :
    View.read (Elt Ideal) (((cfg0 a).win 3).blk t).view f (ix2 i x) = f (ix2 n z) :=
  read_at f _ i x _ _ (em3 a t (ix2 i x)) n (by omega) z (by omega)
theorem kO_apply (c : Dev nD) (t : Fin (cfgM m).N) (i : Fin 128) (x : Fin 1024) (n : Fin 32768) (hn : (n : ℕ) = 128 * (t.val) + i) (z : Fin 6144) (hz : (z : ℕ) = 4096 + x) :
    kO m c t (ix2 i x) = P m c n z :=
  rd3 (adm m) c t (V m c main_v3) i x n hn z hz
theorem em4 (a : (pcfg0 (F := Ideal)).Adm) (t : Fin (cfg0 a).N) (y : S128x1024.Idx) (b : Fin 2) :
    ((((cfg0 a).win 4).rect t).emb y b : ℕ) = (![min (t.val + 1) 255, 4] : Fin 2 → ℕ) b * S128x1024.size b + y b := by
  rw [← tr4 t]; exact ((cfg0 a).win 4).rect_emb_val t y b
theorem rd4 (a : (pcfg0 (F := Ideal)).Adm) (c : Dev nD) (t : Fin (cfg0 a).N) (f : Buf (Elt Ideal) ((c : Thread nD τ).loc main_v3)) (i : Fin 128) (x : Fin 1024)
    (n : Fin 32768) (hn : (n : ℕ) = 128 * (min (t.val + 1) 255) + i) (z : Fin 6144) (hz : (z : ℕ) = 4096 + x) :
    View.read (Elt Ideal) (((cfg0 a).win 4).blk t).view f (ix2 i x) = f (ix2 n z) :=
  read_at f _ i x _ _ (em4 a t (ix2 i x)) n (by omega) z (by omega)
theorem kN_apply (c : Dev nD) (t : Fin (cfgM m).N) (i : Fin 128) (x : Fin 1024) (n : Fin 32768) (hn : (n : ℕ) = 128 * (min (t.val + 1) 255) + i) (z : Fin 6144) (hz : (z : ℕ) = 4096 + x) :
    kN m c t (ix2 i x) = P m c n z :=
  rd4 (adm m) c t (V m c main_v3) i x n hn z hz
theorem em5 (a : (pcfg0 (F := Ideal)).Adm) (t : Fin (cfg0 a).N) (y : S128x1024.Idx) (b : Fin 2) :
    ((((cfg0 a).win 5).rect t).emb y b : ℕ) = (![t.val - 1, 5] : Fin 2 → ℕ) b * S128x1024.size b + y b := by
  rw [← tr5 t]; exact ((cfg0 a).win 5).rect_emb_val t y b
theorem rd5 (a : (pcfg0 (F := Ideal)).Adm) (c : Dev nD) (t : Fin (cfg0 a).N) (f : Buf (Elt Ideal) ((c : Thread nD τ).loc main_v3)) (i : Fin 128) (x : Fin 1024)
    (n : Fin 32768) (hn : (n : ℕ) = 128 * (t.val - 1) + i) (z : Fin 6144) (hz : (z : ℕ) = 5120 + x) :
    View.read (Elt Ideal) (((cfg0 a).win 5).blk t).view f (ix2 i x) = f (ix2 n z) :=
  read_at f _ i x _ _ (em5 a t (ix2 i x)) n (by omega) z (by omega)
theorem vP_apply (c : Dev nD) (t : Fin (cfgM m).N) (i : Fin 128) (x : Fin 1024) (n : Fin 32768) (hn : (n : ℕ) = 128 * (t.val - 1) + i) (z : Fin 6144) (hz : (z : ℕ) = 5120 + x) :
    vP m c t (ix2 i x) = P m c n z :=
  rd5 (adm m) c t (V m c main_v3) i x n hn z hz
theorem em6 (a : (pcfg0 (F := Ideal)).Adm) (t : Fin (cfg0 a).N) (y : S128x1024.Idx) (b : Fin 2) :
    ((((cfg0 a).win 6).rect t).emb y b : ℕ) = (![t.val, 5] : Fin 2 → ℕ) b * S128x1024.size b + y b := by
  rw [← tr6 t]; exact ((cfg0 a).win 6).rect_emb_val t y b
theorem rd6 (a : (pcfg0 (F := Ideal)).Adm) (c : Dev nD) (t : Fin (cfg0 a).N) (f : Buf (Elt Ideal) ((c : Thread nD τ).loc main_v3)) (i : Fin 128) (x : Fin 1024)
    (n : Fin 32768) (hn : (n : ℕ) = 128 * (t.val) + i) (z : Fin 6144) (hz : (z : ℕ) = 5120 + x) :
    View.read (Elt Ideal) (((cfg0 a).win 6).blk t).view f (ix2 i x) = f (ix2 n z) :=
  read_at f _ i x _ _ (em6 a t (ix2 i x)) n (by omega) z (by omega)
theorem vO_apply (c : Dev nD) (t : Fin (cfgM m).N) (i : Fin 128) (x : Fin 1024) (n : Fin 32768) (hn : (n : ℕ) = 128 * (t.val) + i) (z : Fin 6144) (hz : (z : ℕ) = 5120 + x) :
    vO m c t (ix2 i x) = P m c n z :=
  rd6 (adm m) c t (V m c main_v3) i x n hn z hz
theorem em7 (a : (pcfg0 (F := Ideal)).Adm) (t : Fin (cfg0 a).N) (y : S128x1024.Idx) (b : Fin 2) :
    ((((cfg0 a).win 7).rect t).emb y b : ℕ) = (![min (t.val + 1) 255, 5] : Fin 2 → ℕ) b * S128x1024.size b + y b := by
  rw [← tr7 t]; exact ((cfg0 a).win 7).rect_emb_val t y b
theorem rd7 (a : (pcfg0 (F := Ideal)).Adm) (c : Dev nD) (t : Fin (cfg0 a).N) (f : Buf (Elt Ideal) ((c : Thread nD τ).loc main_v3)) (i : Fin 128) (x : Fin 1024)
    (n : Fin 32768) (hn : (n : ℕ) = 128 * (min (t.val + 1) 255) + i) (z : Fin 6144) (hz : (z : ℕ) = 5120 + x) :
    View.read (Elt Ideal) (((cfg0 a).win 7).blk t).view f (ix2 i x) = f (ix2 n z) :=
  read_at f _ i x _ _ (em7 a t (ix2 i x)) n (by omega) z (by omega)
theorem vN_apply (c : Dev nD) (t : Fin (cfgM m).N) (i : Fin 128) (x : Fin 1024) (n : Fin 32768) (hn : (n : ℕ) = 128 * (min (t.val + 1) 255) + i) (z : Fin 6144) (hz : (z : ℕ) = 5120 + x) :
    vN m c t (ix2 i x) = P m c n z :=
  rd7 (adm m) c t (V m c main_v3) i x n hn z hz

theorem rd8 (a : (pcfg0 (F := Ideal)).Adm) (c : Dev nD) (t : Fin (cfg0 a).N) (f : Buf (Elt Ideal) ((c : Thread nD τ).loc main_v21)) (h : Fin 32) (i : Fin 128) (j : Fin 384) :
    View.read (Elt Ideal) (((cfg0 a).win 8).blk t).view f (ix3 h i j) = f (ix3 h i j) := by
  refine congrArg f (funext fun b => Fin.ext ?_)
  refine (em8 a t (ix3 h i j) b).trans ?_
  fin_cases b <;> simp
theorem bB_apply (c : Dev nD) (t : Fin (cfgM m).N) (h : Fin 32) (i : Fin 128) (j : Fin 384) :
    bB m c t (ix3 h i j) = (V m c main_v21 : S32x128x384.Idx → EReal) (ix3 h i j) :=
  rd8 (adm m) c t (V m c main_v21) h i j

theorem rd0 (a : (pcfg0 (F := Ideal)).Adm) (c : Dev nD) (t : Fin (cfg0 a).N) (f : Buf (Elt Ideal) ((c : Thread nD τ).loc main_arg2)) (h : Fin 32) :
    View.read (Elt Ideal) (((cfg0 a).win 0).blk t).view f (ix1 h) = f (ix1 h) := by
  refine congrArg f (funext fun b => Fin.ext ?_)
  refine (em0 a t (ix1 h) b).trans ?_
  fin_cases b; simp
theorem zB_apply (c : Dev nD) (t : Fin (cfgM m).N) (h : Fin 32) : zB m c t (ix1 h) = (V m c main_arg2 : S32.Idx → EReal) (ix1 h) :=
  rd0 (adm m) c t (V m c main_arg2) h

theorem rd1 (a : (pcfg0 (F := Ideal)).Adm) (c : Dev nD) (t : Fin (cfg0 a).N) (f : Buf (Elt Ideal) ((c : Thread nD τ).loc main_v3)) (y : (((cfg0 a).win 1).xblock ((cfg0 a).grid.coords t)).Idx)
    (n : Fin 32768) (hn : (n : ℕ) = 128 * t.val + (y (0 : Fin 2) : ℕ)) (z : Fin 6144) (hz : (z : ℕ) = (y (1 : Fin 2) : ℕ)) :
    View.read (Elt Ideal) (((cfg0 a).win 1).blk t).view f y = f (ix2 n z) := by
  refine congrArg f (funext fun b => Fin.ext ?_)
  refine (em1 a t y b).trans ?_
  fin_cases b
  · show t.val * 128 + (y (0 : Fin 2) : ℕ) = n; omega
  · show 0 * 4096 + (y (1 : Fin 2) : ℕ) = z; omega
theorem fill_at (a : (pcfg0 (F := Ideal)).Adm) (t : Fin (cfg0 a).N) (d : ((cfg0 a).win 1).block.Idx → Elt Ideal ((cfg0 a).win 1).elt) (g)
    (y : ((cfg0 a).win 1).block.Idx) (h : ((cfg0 a).win 1).moved ((cfg0 a).grid.coords t) y = true) :
    ∃ y' : (((cfg0 a).win 1).xblock ((cfg0 a).grid.coords t)).Idx, (∀ b, (y' b : ℕ) = y b) ∧ ((cfg0 a).win 1).fill ((cfg0 a).grid.coords t) d g y = g y' := by
  unfold Pipeline.Window.fill
  rw [dif_pos h]
  exact ⟨_, fun b => rfl, rfl⟩
theorem qB_apply (c : Dev nD) (t : Fin (cfgM m).N) (i : Fin 128) (x : Fin 4096) (n : Fin 32768) (hn : (n : ℕ) = 128 * t.val + i) (z : Fin 6144) (hz : (z : ℕ) = x) :
    qB m c t (ix2 i x) = P m c n z := by
  obtain ⟨y', h, e⟩ := fill_at (adm m) t (dflt1 m) (iblk m c 1 t) (ix2 i x) (moved1 m t _)
  refine Eq.trans e ?_
  exact rd1 (adm m) c t (V m c main_v3) y' n (hn.trans (congrArg _ (h (0 : Fin 2)).symm)) z (hz.trans (h (1 : Fin 2)).symm)

end Cert.KernelIdeal.Attn
end
-- ==== Proof.Attn.Slope.lean ====
/- A query's distance from a key, the bias's slope of a query head over the extended reals, and why a logit over real
   queries and keys is not infinite above. -/
module

public import proofs.«01_k».proof.Proof.Attn.Softmax

@[expose] public section

noncomputable section

namespace Cert.Attn

open Idealize.ShloMosaic

/-- How far query `i` of a block stands from key `j` of the three blocks around it. -/
def reach (i j : ℕ) : ℕ := if j < 128 + i then 128 + i - j else j - 128 - i

theorem reach_lt (i : Fin 128) (j : Fin 384) : reach i j < 256 := by
  unfold reach; split_ifs <;> omega

/-- The scale of the scores, 1/√128 rounded. -/
abbrev scale : EReal := Ideal.ofBits .f32 0x3DB504F3#32

/-- Query head `h`'s slope: minus two to the power −8 (h + 1) / 32, as both programs compute it. -/
def slopeOf (h : ℕ) : EReal :=
  -Ideal.exp (Ideal.ofBits .f32 1060205080#32
    * Ideal.div (Ideal.ofBits .f32 3238002688#32 * (1 + (FloatOps.sitofp (F := Ideal) .f32 (BitVec.ofNat 32 h) : EReal)))
      (Ideal.ofBits .f32 1107296256#32))

theorem slope_mul_ne_top (h : ℕ) (d : ℝ) (hd : 0 ≤ d) : slopeOf h * (d : EReal) ≠ ⊤ := by
  have h0 : slopeOf h * (d : EReal) ≤ 0 := by
    unfold slopeOf
    rw [EReal.neg_mul]
    exact EReal.neg_le_zero.mpr (mul_nonneg (exp_nonneg _) (EReal.coe_nonneg.mpr hd))
  intro e
  rw [e] at h0
  exact absurd h0 (by simp)

/-- The scale is a real number. -/
theorem scale_real : ∃ r : ℝ, scale = (r : EReal) := by
  unfold scale
  simp only [Ideal.ofBits, Ideal.ieee]
  rw [if_neg (by decide), if_neg (by decide)]
  exact ⟨_, rfl⟩

/-- A sum of products of reals is a real. -/
theorem sum_real {n : ℕ} (f g : Fin n → EReal) (hf : ∀ x, ∃ r : ℝ, f x = r) (hg : ∀ x, ∃ r : ℝ, g x = r) :
    ∃ r : ℝ, ∑ x, f x * g x = (r : EReal) := by
  refine Finset.sum_induction _ (fun e : EReal => ∃ r : ℝ, e = (r : EReal)) ?_ ⟨0, rfl⟩ fun x _ => ?_
  · rintro _ _ ⟨a, rfl⟩ ⟨b, rfl⟩
    exact ⟨a + b, (EReal.coe_add a b).symm⟩
  · obtain ⟨a, ha⟩ := hf x
    obtain ⟨b, hb⟩ := hg x
    exact ⟨a * b, by rw [ha, hb, EReal.coe_mul]⟩

/-- A logit over real queries and keys is not infinite above. -/
theorem logit_ne_top {n : ℕ} (f g : Fin n → EReal) (hf : ∀ x, ∃ r : ℝ, f x = r) (hg : ∀ x, ∃ r : ℝ, g x = r) (h d : ℕ) :
    (∑ x, f x * g x) * scale + slopeOf h * (((d : ℕ) : ℝ) : EReal) ≠ ⊤ := by
  obtain ⟨r, hr⟩ := sum_real f g hf hg
  obtain ⟨s, hs⟩ := scale_real
  rw [hr, hs, ← EReal.coe_mul]
  exact EReal.add_ne_top (EReal.coe_ne_top _) (slope_mul_ne_top h _ (Nat.cast_nonneg d))

end Cert.Attn

end
-- ==== Proof.Attn.Literals.lean ====
/- The two tables the attention's host lines embed, read at a row and a column: the distance between a query and a key as a
   number, and whether the window reaches that far. -/
module

public import proofs.«01_k».proof.Proof.Attn.Setup
public import proofs.«01_k».proof.KernelIdeal
public import proofs.«01_k».proof.KernelIdeal.P03
public import proofs.«01_k».proof.Proof.Attn.Slope
public import Idealize.ShloMosaic.PureOps.Ideal.Laws
public import Idealize.ShloMosaic.Lib.IdealHost

@[expose] public section

set_option maxRecDepth 16384

noncomputable section

open Idealize Idealize.ShloMosaic

namespace Cert.KernelIdeal.Attn
open Cert.KernelIdeal
open Cert.Attn (reach reach_lt)

/-- The f32 pattern of a natural number below 2²⁴. -/
def natPat (n : ℕ) : BitVec 32 :=
  if n = 0 then 0#32
  else BitVec.ofNat 32 ((127 + Nat.log2 n) * 8388608 + (n - 2 ^ Nat.log2 n) * 2 ^ (23 - Nat.log2 n))

/-- A table of 128 entries, written as its entries in order, has property `C` at every index when each entry has it. -/
theorem table128 {α : Type} (C : ℕ → α → Prop) {d
      v0 v1 v2 v3 v4 v5 v6 v7 v8 v9 v10 v11 v12 v13 v14 v15 v16 v17 v18 v19 v20 v21 v22 v23 v24 v25 v26 v27 v28 v29 v30
      v31 v32 v33 v34 v35 v36 v37 v38 v39 v40 v41 v42 v43 v44 v45 v46 v47 v48 v49 v50 v51 v52 v53 v54 v55 v56 v57 v58
      v59 v60 v61 v62 v63 v64 v65 v66 v67 v68 v69 v70 v71 v72 v73 v74 v75 v76 v77 v78 v79 v80 v81 v82 v83 v84 v85 v86
      v87 v88 v89 v90 v91 v92 v93 v94 v95 v96 v97 v98 v99 v100 v101 v102 v103 v104 v105 v106 v107 v108 v109 v110 v111
      v112 v113 v114 v115 v116 v117 v118 v119 v120 v121 v122 v123 v124 v125 v126 v127 : α} (x : ℕ) (hx : x < 128)
    (h :
      C 0 v0 ∧ C 1 v1 ∧ C 2 v2 ∧ C 3 v3 ∧ C 4 v4 ∧ C 5 v5 ∧ C 6 v6 ∧ C 7 v7 ∧ C 8 v8 ∧ C 9 v9 ∧ C 10 v10 ∧ C 11 v11 ∧ C
      12 v12 ∧ C 13 v13 ∧ C 14 v14 ∧ C 15 v15 ∧ C 16 v16 ∧ C 17 v17 ∧ C 18 v18 ∧ C 19 v19 ∧ C 20 v20 ∧ C 21 v21 ∧ C 22
      v22 ∧ C 23 v23 ∧ C 24 v24 ∧ C 25 v25 ∧ C 26 v26 ∧ C 27 v27 ∧ C 28 v28 ∧ C 29 v29 ∧ C 30 v30 ∧ C 31 v31 ∧ C 32 v32
      ∧ C 33 v33 ∧ C 34 v34 ∧ C 35 v35 ∧ C 36 v36 ∧ C 37 v37 ∧ C 38 v38 ∧ C 39 v39 ∧ C 40 v40 ∧ C 41 v41 ∧ C 42 v42 ∧ C
      43 v43 ∧ C 44 v44 ∧ C 45 v45 ∧ C 46 v46 ∧ C 47 v47 ∧ C 48 v48 ∧ C 49 v49 ∧ C 50 v50 ∧ C 51 v51 ∧ C 52 v52 ∧ C 53
      v53 ∧ C 54 v54 ∧ C 55 v55 ∧ C 56 v56 ∧ C 57 v57 ∧ C 58 v58 ∧ C 59 v59 ∧ C 60 v60 ∧ C 61 v61 ∧ C 62 v62 ∧ C 63 v63
      ∧ C 64 v64 ∧ C 65 v65 ∧ C 66 v66 ∧ C 67 v67 ∧ C 68 v68 ∧ C 69 v69 ∧ C 70 v70 ∧ C 71 v71 ∧ C 72 v72 ∧ C 73 v73 ∧ C
      74 v74 ∧ C 75 v75 ∧ C 76 v76 ∧ C 77 v77 ∧ C 78 v78 ∧ C 79 v79 ∧ C 80 v80 ∧ C 81 v81 ∧ C 82 v82 ∧ C 83 v83 ∧ C 84
      v84 ∧ C 85 v85 ∧ C 86 v86 ∧ C 87 v87 ∧ C 88 v88 ∧ C 89 v89 ∧ C 90 v90 ∧ C 91 v91 ∧ C 92 v92 ∧ C 93 v93 ∧ C 94 v94
      ∧ C 95 v95 ∧ C 96 v96 ∧ C 97 v97 ∧ C 98 v98 ∧ C 99 v99 ∧ C 100 v100 ∧ C 101 v101 ∧ C 102 v102 ∧ C 103 v103 ∧ C
      104 v104 ∧ C 105 v105 ∧ C 106 v106 ∧ C 107 v107 ∧ C 108 v108 ∧ C 109 v109 ∧ C 110 v110 ∧ C 111 v111 ∧ C 112 v112
      ∧ C 113 v113 ∧ C 114 v114 ∧ C 115 v115 ∧ C 116 v116 ∧ C 117 v117 ∧ C 118 v118 ∧ C 119 v119 ∧ C 120 v120 ∧ C 121
      v121 ∧ C 122 v122 ∧ C 123 v123 ∧ C 124 v124 ∧ C 125 v125 ∧ C 126 v126 ∧ C 127 v127) :
    C x (match (generalizing := false) x with
      | 0 => v0 | 1 => v1 | 2 => v2 | 3 => v3 | 4 => v4 | 5 => v5 | 6 => v6 | 7 => v7
      | 8 => v8 | 9 => v9 | 10 => v10 | 11 => v11 | 12 => v12 | 13 => v13 | 14 => v14 | 15 => v15
      | 16 => v16 | 17 => v17 | 18 => v18 | 19 => v19 | 20 => v20 | 21 => v21 | 22 => v22 | 23 => v23
      | 24 => v24 | 25 => v25 | 26 => v26 | 27 => v27 | 28 => v28 | 29 => v29 | 30 => v30 | 31 => v31
      | 32 => v32 | 33 => v33 | 34 => v34 | 35 => v35 | 36 => v36 | 37 => v37 | 38 => v38 | 39 => v39
      | 40 => v40 | 41 => v41 | 42 => v42 | 43 => v43 | 44 => v44 | 45 => v45 | 46 => v46 | 47 => v47
      | 48 => v48 | 49 => v49 | 50 => v50 | 51 => v51 | 52 => v52 | 53 => v53 | 54 => v54 | 55 => v55
      | 56 => v56 | 57 => v57 | 58 => v58 | 59 => v59 | 60 => v60 | 61 => v61 | 62 => v62 | 63 => v63
      | 64 => v64 | 65 => v65 | 66 => v66 | 67 => v67 | 68 => v68 | 69 => v69 | 70 => v70 | 71 => v71
      | 72 => v72 | 73 => v73 | 74 => v74 | 75 => v75 | 76 => v76 | 77 => v77 | 78 => v78 | 79 => v79
      | 80 => v80 | 81 => v81 | 82 => v82 | 83 => v83 | 84 => v84 | 85 => v85 | 86 => v86 | 87 => v87
      | 88 => v88 | 89 => v89 | 90 => v90 | 91 => v91 | 92 => v92 | 93 => v93 | 94 => v94 | 95 => v95
      | 96 => v96 | 97 => v97 | 98 => v98 | 99 => v99 | 100 => v100 | 101 => v101 | 102 => v102 | 103 => v103
      | 104 => v104 | 105 => v105 | 106 => v106 | 107 => v107 | 108 => v108 | 109 => v109 | 110 => v110 | 111 => v111
      | 112 => v112 | 113 => v113 | 114 => v114 | 115 => v115 | 116 => v116 | 117 => v117 | 118 => v118 | 119 => v119
      | 120 => v120 | 121 => v121 | 122 => v122 | 123 => v123 | 124 => v124 | 125 => v125 | 126 => v126 | 127 => v127
      | _ => d) := by
  obtain ⟨
      h0, h1, h2, h3, h4, h5, h6, h7, h8, h9, h10, h11, h12, h13, h14, h15, h16, h17, h18, h19, h20, h21, h22, h23,
      h24, h25, h26, h27, h28, h29, h30, h31, h32, h33, h34, h35, h36, h37, h38, h39, h40, h41, h42, h43, h44, h45,
      h46, h47, h48, h49, h50, h51, h52, h53, h54, h55, h56, h57, h58, h59, h60, h61, h62, h63, h64, h65, h66, h67,
      h68, h69, h70, h71, h72, h73, h74, h75, h76, h77, h78, h79, h80, h81, h82, h83, h84, h85, h86, h87, h88, h89,
      h90, h91, h92, h93, h94, h95, h96, h97, h98, h99, h100, h101, h102, h103, h104, h105, h106, h107, h108, h109,
      h110, h111, h112, h113, h114, h115, h116, h117, h118, h119, h120, h121, h122, h123, h124, h125, h126, h127⟩ := h
  interval_cases x <;> assumption

/-- The same for entries `128 k` to `128 k + 127` of a longer table, by one evaluation. -/
theorem leaf128 {α : Type} (k : ℕ) (ok : ℕ → α → Bool) {d
      v0 v1 v2 v3 v4 v5 v6 v7 v8 v9 v10 v11 v12 v13 v14 v15 v16 v17 v18 v19 v20 v21 v22 v23 v24 v25 v26 v27 v28 v29 v30
      v31 v32 v33 v34 v35 v36 v37 v38 v39 v40 v41 v42 v43 v44 v45 v46 v47 v48 v49 v50 v51 v52 v53 v54 v55 v56 v57 v58
      v59 v60 v61 v62 v63 v64 v65 v66 v67 v68 v69 v70 v71 v72 v73 v74 v75 v76 v77 v78 v79 v80 v81 v82 v83 v84 v85 v86
      v87 v88 v89 v90 v91 v92 v93 v94 v95 v96 v97 v98 v99 v100 v101 v102 v103 v104 v105 v106 v107 v108 v109 v110 v111
      v112 v113 v114 v115 v116 v117 v118 v119 v120 v121 v122 v123 v124 v125 v126 v127 : α}
    (h : (
      ok (128*k+0) v0 && (ok (128*k+1) v1 && (ok (128*k+2) v2 && (ok (128*k+3) v3 && (ok (128*k+4) v4 && (ok (128*k+5)
      v5 && (ok (128*k+6) v6 && (ok (128*k+7) v7 && (ok (128*k+8) v8 && (ok (128*k+9) v9 && (ok (128*k+10) v10 && (ok
      (128*k+11) v11 && (ok (128*k+12) v12 && (ok (128*k+13) v13 && (ok (128*k+14) v14 && (ok (128*k+15) v15 && (ok
      (128*k+16) v16 && (ok (128*k+17) v17 && (ok (128*k+18) v18 && (ok (128*k+19) v19 && (ok (128*k+20) v20 && (ok
      (128*k+21) v21 && (ok (128*k+22) v22 && (ok (128*k+23) v23 && (ok (128*k+24) v24 && (ok (128*k+25) v25 && (ok
      (128*k+26) v26 && (ok (128*k+27) v27 && (ok (128*k+28) v28 && (ok (128*k+29) v29 && (ok (128*k+30) v30 && (ok
      (128*k+31) v31 && (ok (128*k+32) v32 && (ok (128*k+33) v33 && (ok (128*k+34) v34 && (ok (128*k+35) v35 && (ok
      (128*k+36) v36 && (ok (128*k+37) v37 && (ok (128*k+38) v38 && (ok (128*k+39) v39 && (ok (128*k+40) v40 && (ok
      (128*k+41) v41 && (ok (128*k+42) v42 && (ok (128*k+43) v43 && (ok (128*k+44) v44 && (ok (128*k+45) v45 && (ok
      (128*k+46) v46 && (ok (128*k+47) v47 && (ok (128*k+48) v48 && (ok (128*k+49) v49 && (ok (128*k+50) v50 && (ok
      (128*k+51) v51 && (ok (128*k+52) v52 && (ok (128*k+53) v53 && (ok (128*k+54) v54 && (ok (128*k+55) v55 && (ok
      (128*k+56) v56 && (ok (128*k+57) v57 && (ok (128*k+58) v58 && (ok (128*k+59) v59 && (ok (128*k+60) v60 && (ok
      (128*k+61) v61 && (ok (128*k+62) v62 && (ok (128*k+63) v63 && (ok (128*k+64) v64 && (ok (128*k+65) v65 && (ok
      (128*k+66) v66 && (ok (128*k+67) v67 && (ok (128*k+68) v68 && (ok (128*k+69) v69 && (ok (128*k+70) v70 && (ok
      (128*k+71) v71 && (ok (128*k+72) v72 && (ok (128*k+73) v73 && (ok (128*k+74) v74 && (ok (128*k+75) v75 && (ok
      (128*k+76) v76 && (ok (128*k+77) v77 && (ok (128*k+78) v78 && (ok (128*k+79) v79 && (ok (128*k+80) v80 && (ok
      (128*k+81) v81 && (ok (128*k+82) v82 && (ok (128*k+83) v83 && (ok (128*k+84) v84 && (ok (128*k+85) v85 && (ok
      (128*k+86) v86 && (ok (128*k+87) v87 && (ok (128*k+88) v88 && (ok (128*k+89) v89 && (ok (128*k+90) v90 && (ok
      (128*k+91) v91 && (ok (128*k+92) v92 && (ok (128*k+93) v93 && (ok (128*k+94) v94 && (ok (128*k+95) v95 && (ok
      (128*k+96) v96 && (ok (128*k+97) v97 && (ok (128*k+98) v98 && (ok (128*k+99) v99 && (ok (128*k+100) v100 && (ok
      (128*k+101) v101 && (ok (128*k+102) v102 && (ok (128*k+103) v103 && (ok (128*k+104) v104 && (ok (128*k+105) v105
      && (ok (128*k+106) v106 && (ok (128*k+107) v107 && (ok (128*k+108) v108 && (ok (128*k+109) v109 && (ok
      (128*k+110) v110 && (ok (128*k+111) v111 && (ok (128*k+112) v112 && (ok (128*k+113) v113 && (ok (128*k+114) v114
      && (ok (128*k+115) v115 && (ok (128*k+116) v116 && (ok (128*k+117) v117 && (ok (128*k+118) v118 && (ok
      (128*k+119) v119 && (ok (128*k+120) v120 && (ok (128*k+121) v121 && (ok (128*k+122) v122 && (ok (128*k+123) v123
      && (ok (128*k+124) v124 && (ok (128*k+125) v125 && (ok (128*k+126) v126 && (ok (128*k+127)
      v127)))))))))))))))))))))))))))))))))))))))))))))))))))))))))))))))))))))))))))))))))))))))))))))))))))))))))))))))))))))))))))))))) = true)
    (i : ℕ) (hi : i / 128 = k) :
    ok i (match (generalizing := false) i % 128 with
      | 0 => v0 | 1 => v1 | 2 => v2 | 3 => v3 | 4 => v4 | 5 => v5 | 6 => v6 | 7 => v7
      | 8 => v8 | 9 => v9 | 10 => v10 | 11 => v11 | 12 => v12 | 13 => v13 | 14 => v14 | 15 => v15
      | 16 => v16 | 17 => v17 | 18 => v18 | 19 => v19 | 20 => v20 | 21 => v21 | 22 => v22 | 23 => v23
      | 24 => v24 | 25 => v25 | 26 => v26 | 27 => v27 | 28 => v28 | 29 => v29 | 30 => v30 | 31 => v31
      | 32 => v32 | 33 => v33 | 34 => v34 | 35 => v35 | 36 => v36 | 37 => v37 | 38 => v38 | 39 => v39
      | 40 => v40 | 41 => v41 | 42 => v42 | 43 => v43 | 44 => v44 | 45 => v45 | 46 => v46 | 47 => v47
      | 48 => v48 | 49 => v49 | 50 => v50 | 51 => v51 | 52 => v52 | 53 => v53 | 54 => v54 | 55 => v55
      | 56 => v56 | 57 => v57 | 58 => v58 | 59 => v59 | 60 => v60 | 61 => v61 | 62 => v62 | 63 => v63
      | 64 => v64 | 65 => v65 | 66 => v66 | 67 => v67 | 68 => v68 | 69 => v69 | 70 => v70 | 71 => v71
      | 72 => v72 | 73 => v73 | 74 => v74 | 75 => v75 | 76 => v76 | 77 => v77 | 78 => v78 | 79 => v79
      | 80 => v80 | 81 => v81 | 82 => v82 | 83 => v83 | 84 => v84 | 85 => v85 | 86 => v86 | 87 => v87
      | 88 => v88 | 89 => v89 | 90 => v90 | 91 => v91 | 92 => v92 | 93 => v93 | 94 => v94 | 95 => v95
      | 96 => v96 | 97 => v97 | 98 => v98 | 99 => v99 | 100 => v100 | 101 => v101 | 102 => v102 | 103 => v103
      | 104 => v104 | 105 => v105 | 106 => v106 | 107 => v107 | 108 => v108 | 109 => v109 | 110 => v110 | 111 => v111
      | 112 => v112 | 113 => v113 | 114 => v114 | 115 => v115 | 116 => v116 | 117 => v117 | 118 => v118 | 119 => v119
      | 120 => v120 | 121 => v121 | 122 => v122 | 123 => v123 | 124 => v124 | 125 => v125 | 126 => v126 | 127 => v127
      | _ => d) = true := by
  have e : i = 128 * k + i % 128 := by omega
  have := table128 (d := d) (fun n v => ok (128 * k + n) v = true) (i % 128) (by omega)
    (by simpa only [Bool.and_eq_true] using h)
  rw [← e] at this
  exact this

/-- The distances' table is right at row-major index `t`. -/
def ok2 (t : ℕ) (v : BitVec 32) : Bool := Nat.beq v.toNat (natPat (reach (t / 384) (t % 384))).toNat

/-- The window's table is right at row-major index `t`. -/
def ok3 (t : ℕ) (v : BitVec 1) : Bool := Nat.beq v.toNat (if reach (t / 384) (t % 384) ≤ 128 then 1 else 0)

theorem lit2_part0 (i : ℕ) (hi : i / 16384 = 0) : ok2 i (lit2t1_0 i) = true := by
  refine table128 (fun d v => i / 128 = 0 + d → ok2 i v = true) (i / 128 % 128) (by omega) ?_ (by omega)
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals exact fun hd => leaf128 _ ok2 (by decide +kernel) i hd

theorem lit2_part1 (i : ℕ) (hi : i / 16384 = 1) : ok2 i (lit2t1_1 i) = true := by
  refine table128 (fun d v => i / 128 = 128 + d → ok2 i v = true) (i / 128 % 128) (by omega) ?_ (by omega)
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals exact fun hd => leaf128 _ ok2 (by decide +kernel) i hd

theorem lit2_part2 (i : ℕ) (hi : i / 16384 = 2) : ok2 i (lit2t1_2 i) = true := by
  refine table128 (fun d v => i / 128 = 256 + d → ok2 i v = true) (i / 128 % 128) (by omega) ?_ (by omega)
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals exact fun hd => leaf128 _ ok2 (by decide +kernel) i hd

theorem lit3_part0 (i : ℕ) (hi : i / 16384 = 0) : ok3 i (lit3t1_0 i) = true := by
  refine table128 (fun d v => i / 128 = 0 + d → ok3 i v = true) (i / 128 % 128) (by omega) ?_ (by omega)
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals exact fun hd => leaf128 _ ok3 (by decide +kernel) i hd

theorem lit3_part1 (i : ℕ) (hi : i / 16384 = 1) : ok3 i (lit3t1_1 i) = true := by
  refine table128 (fun d v => i / 128 = 128 + d → ok3 i v = true) (i / 128 % 128) (by omega) ?_ (by omega)
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals exact fun hd => leaf128 _ ok3 (by decide +kernel) i hd

theorem lit3_part2 (i : ℕ) (hi : i / 16384 = 2) : ok3 i (lit3t1_2 i) = true := by
  refine table128 (fun d v => i / 128 = 256 + d → ok3 i v = true) (i / 128 % 128) (by omega) ?_ (by omega)
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals exact fun hd => leaf128 _ ok3 (by decide +kernel) i hd

theorem lit2_ok (t : ℕ) (h : t < 49152) : ok2 t (lit2t t) = true := by
  unfold lit2t
  have e : t / 16384 = 0 ∨ t / 16384 = 1 ∨ t / 16384 = 2 := by omega
  obtain e | e | e := e
  · rw [e]; exact lit2_part0 t e
  · rw [e]; exact lit2_part1 t e
  · rw [e]; exact lit2_part2 t e

theorem lit3_ok (t : ℕ) (h : t < 49152) : ok3 t (lit3t t) = true := by
  unfold lit3t
  have e : t / 16384 = 0 ∨ t / 16384 = 1 ∨ t / 16384 = 2 := by omega
  obtain e | e | e := e
  · rw [e]; exact lit3_part0 t e
  · rw [e]; exact lit3_part1 t e
  · rw [e]; exact lit3_part2 t e

theorem lit2_row (i : Fin 128) (j : Fin 384) : lit2t (384 * i.val + j.val) = natPat (reach i j) := by
  have h := Nat.eq_of_beq_eq_true (lit2_ok (384 * i.val + j.val) (by omega))
  rw [show (384 * i.val + j.val) / 384 = i.val by omega, show (384 * i.val + j.val) % 384 = j.val by omega] at h
  exact BitVec.eq_of_toNat_eq h

theorem lit3_row (i : Fin 128) (j : Fin 384) :
    lit3t (384 * i.val + j.val) = if reach i j ≤ 128 then 1#1 else 0#1 := by
  have h := Nat.eq_of_beq_eq_true (lit3_ok (384 * i.val + j.val) (by omega))
  rw [show (384 * i.val + j.val) / 384 = i.val by omega, show (384 * i.val + j.val) % 384 = j.val by omega] at h
  apply BitVec.eq_of_toNat_eq
  rw [h]
  split_ifs <;> rfl

theorem natPat_fields : ∀ n : Fin 256, n.val ≠ 0 →
    ((natPat n).extractLsb' 31 1 == 1#1) = false ∧ ((natPat n).extractLsb' 23 8).toNat = 127 + Nat.log2 n
      ∧ ((natPat n).extractLsb' 0 23).toNat = (n.val - 2 ^ Nat.log2 n) * 2 ^ (23 - Nat.log2 n)
      ∧ 2 ^ Nat.log2 n ≤ n.val ∧ Nat.log2 n ≤ 7 := by decide +kernel

/-- The pattern of a small natural number denotes it. -/
theorem ofBits_natPat (n : ℕ) (h : n < 256) : Ideal.ofBits .f32 (natPat n) = ((n : ℝ) : EReal) := by
  by_cases h0 : n = 0
  · subst h0
    rw [show natPat 0 = 0x00000000#32 from rfl]
    rw [Ideal.ofBits_zero_f32]; simp
  obtain ⟨h1, h2, h3, h4, h5⟩ := natPat_fields ⟨n, h⟩ h0
  dsimp only at h1 h2 h3 h4 h5
  show Ideal.ieee 8 23 (natPat n) = _
  unfold Ideal.ieee
  dsimp only
  rw [h1, h2, h3]
  rw [if_neg (by norm_num; omega), if_neg (by omega)]
  congr 1
  generalize Nat.log2 n = k at *
  obtain ⟨d, rfl⟩ := Nat.exists_eq_add_of_le h4
  rw [Nat.add_sub_cancel_left]
  have e1 : (((127 + k : ℕ) : Int) - (2 ^ (8 - 1) - 1) - (23 : ℕ)) = -((23 - k : ℕ) : Int) := by
    norm_num; omega
  rw [e1, zpow_neg, zpow_natCast]
  have e2 : (8388608 : ℝ) = 2 ^ k * 2 ^ (23 - k) := by rw [← pow_add, show k + (23 - k) = 23 by omega]; norm_num
  have e3 : (2 : ℝ) ^ (23 - k) ≠ 0 := by positivity
  rw [if_neg (by decide)]
  push_cast
  norm_num only
  rw [e2]
  field_simp

end Cert.KernelIdeal.Attn

end
-- ==== Proof.Attn.Logit.lean ====
/- A grid point's logits and values, as the projections' rows: the masks read as a condition on the row. -/
module

public import proofs.«01_k».proof.Proof.Attn.Blocks
public import proofs.«01_k».proof.Proof.Attn.Literals
public import proofs.«01_k».proof.Proof.Attn.Slope

@[expose] public section

set_option maxRecDepth 16384

noncomputable section

namespace Cert.KernelIdeal.Attn

open Cert.KernelIdeal Cert.KernelIdeal.Gen
open Cert.Attn (scale slopeOf reach reach_lt)
open Idealize.ShloMosaic Idealize.ShloMosaic.TcCoe Idealize.ShloMosaic.Tactic
open Idealize.ShloMosaic.Pipeline (Dat Cfg Window BodyObligation cellOf)

/-- Whether a grid point's block is the first of its sequence: of one of the eight prompts, or of the sample. -/
def first (t : ℕ) : Bool := (t < 128 && t % 16 == 0) || t == 128
/-- Whether it is the last. -/
def last (t : ℕ) : Bool := (t < 128 && t % 16 == 15) || t == 255

theorem lit0_val : ∀ t : Fin 256, lit0 t = if first t.val then 1#32 else 0#32 := by decide +kernel
theorem lit1_val : ∀ t : Fin 256, lit1 t = if last t.val then 1#32 else 0#32 := by decide +kernel
theorem off1 : ∀ t : Fin grid0.N, k0_off1 (grid0.coords t) = ![t.val] := by decide +kernel

theorem rm1 (n : Fin 256) : S256.rowMajor (ix1 n) = n := Fin.ext (Shape.rowMajor_val_one _)

theorem rm2 (i : Fin 128) (j : Fin 384) : (S128x384.rowMajor (ix2 i j) : ℕ) = 384 * i + j := by
  rw [Shape.rowMajor_val_two]; show (i : ℕ) * 384 + j = _; omega

theorem flag0 (c : Dev nD) (t : Fin grid0.N) (u : TbBuf (F := Ideal) c tb0) (n : Fin 256) (hn : n.val = t.val) :
    kernelRun.sl.r c (grid0.coords t) u = (u : S256.Idx → BitVec 32) (ix1 n) := by
  unfold kernelRun.sl.r
  refine congrArg (u : S256.Idx → BitVec 32) (funext fun a => Fin.ext ?_)
  have := congrFun (off1 t) 0
  fin_cases a
  simp [Rect.unit, LoadRect.idx, this, hn]

theorem flag1 (c : Dev nD) (t : Fin grid0.N) (u : TbBuf (F := Ideal) c tb1) (n : Fin 256) (hn : n.val = t.val) :
    kernelRun.sl.r_1 c (grid0.coords t) u = (u : S256.Idx → BitVec 32) (ix1 n) := by
  unfold kernelRun.sl.r_1
  refine congrArg (u : S256.Idx → BitVec 32) (funext fun a => Fin.ext ?_)
  have := congrFun (off1 t) 0
  fin_cases a
  simp [Rect.unit, LoadRect.idx, this, hn]

/-- The columns the edge mask closes. -/
theorem edge_words : ∀ (f l : Bool) (j : Fin 384),
    IntOp.ori (IntOp.cmpi .slt (BitVec.ofNat 32 j.val) (Scalar.select (Scalar.cmpi .eq (if f then 1#32 else 0#32) 1#32) 128#32 0#32))
      (IntOp.cmpi .sge (BitVec.ofNat 32 j.val) (Scalar.select (Scalar.cmpi .eq (if l then 1#32 else 0#32) 1#32) 256#32 384#32))
      = if (f ∧ j.val < 128) ∨ (l ∧ 256 ≤ j.val) then 1#1 else 0#1 := by decide +kernel

theorem pay2_apply (a b : BitVec 32) (j : Fin 384) : k0_pay2 (F := Ideal) a b (ix2 0 j)
    = Scalar.select (IntOp.ori (IntOp.cmpi .slt (BitVec.ofNat 32 j.val) (Scalar.select (Scalar.cmpi .eq a 1#32) 128#32 0#32))
      (IntOp.cmpi .sge (BitVec.ofNat 32 j.val) (Scalar.select (Scalar.cmpi .eq b 1#32) 256#32 384#32))) (⊥ : EReal) 0 := by
  pointwise [k0_pay2]
  rfl

variable (m : (ℓ : Loc nD τ sig) → Buf (Elt Ideal) ℓ)

theorem V_first (c : Dev nD) (n : Fin 256) : (V m c main_c : S256.Idx → BitVec 32) (ix1 n) = if first n.val then 1#32 else 0#32 := by
  unfold V
  simp only [hostOps0, hostOps0_1, List.flatten_cons, List.flatten_nil, List.append_nil, List.cons_append, List.nil_append]
  entry_read
  rw [rm1, lit0_val]

theorem V_last (c : Dev nD) (n : Fin 256) : (V m c main_c_0 : S256.Idx → BitVec 32) (ix1 n) = if last n.val then 1#32 else 0#32 := by
  unfold V
  simp only [hostOps0, hostOps0_1, List.flatten_cons, List.flatten_nil, List.append_nil, List.cons_append, List.nil_append]
  entry_read
  rw [rm1, lit1_val]

/-- The edge mask at a column. -/
theorem edge_apply (c : Dev nD) (t : Fin (cfgM m).N) (j : Fin 384) (n : Fin 256) (hn : n.val = t.val) :
    edgeOf m c t (ix2 0 j) = if (first n.val ∧ j.val < 128) ∨ (last n.val ∧ 256 ≤ j.val) then ⊥ else 0 := by
  have h0 : kernelRun.sl.r c (grid0.coords t) (tbl m 0) = if first n.val then 1#32 else 0#32 :=
    (flag0 c t (tbl m 0) n hn).trans (V_first m 0 n)
  have h1 : kernelRun.sl.r_1 c (grid0.coords t) (tbl m 1) = if last n.val then 1#32 else 0#32 :=
    (flag1 c t (tbl m 1) n hn).trans (V_last m 0 n)
  unfold edgeOf kernelRun.sl.r_2
  rw [h0, h1, pay2_apply, edge_words]
  by_cases h : (first n.val ∧ j.val < 128) ∨ (last n.val ∧ 256 ≤ j.val)
  · rw [if_pos h, if_pos h]; rfl
  · rw [if_neg h, if_neg h]; rfl

/-- The bias array at a head, a query and a key: the slope times the distance within the window, minus infinity beyond. -/
theorem V21_apply (c : Dev nD) (h : Fin 32) (i : Fin 128) (j : Fin 384) :
    (V m c main_v21 : S32x128x384.Idx → EReal) (ix3 h i j)
      = if reach i j ≤ 128 then slopeOf h * (((reach i j : ℕ) : ℝ) : EReal) else ⊥ := by
  have e : (V m c main_v21 : S32x128x384.Idx → EReal) (ix3 h i j)
      = Scalar.select (lit3 (S128x384.rowMajor (ix2 i j))) (slopeOf h * Ideal.ofBits .f32 (lit2 (S128x384.rowMajor (ix2 i j))))
          (Ideal.ofBits .f32 4286578688#32) := by
    unfold V
    simp only [hostOps0, hostOps0_1, List.flatten_cons, List.flatten_nil, List.append_nil, List.cons_append, List.nil_append]
    entry_read
    simp only [StableHlo.TRef.ofBuf, StableHlo.TRef.toBuf, StableHlo.TRef.of, cast_eq]
    pointwise
    rfl
  have e3 : lit3 (S128x384.rowMajor (ix2 i j)) = lit3t (384 * i.val + j.val) := congrArg lit3t (rm2 i j)
  have e2 : lit2 (S128x384.rowMajor (ix2 i j)) = lit2t (384 * i.val + j.val) := congrArg lit2t (rm2 i j)
  rw [e, e3, e2, lit3_row, lit2_row, ofBits_natPat _ (reach_lt i j)]
  by_cases hd : reach i j ≤ 128
  · rw [if_pos hd, if_pos hd]; rfl
  · rw [if_neg hd, if_neg hd]; exact Cert.Attn.negInf_eq

end Cert.KernelIdeal.Attn

end
-- ==== Proof.Attn.Kernel.lean ====
/- What the attention's launch leaves in its result: at every element, softmax attention over the rows of the projections. -/
module

public import proofs.«01_k».proof.Proof.Attn.Logit
public import Idealize.ShloMosaic.Lib.Pipeline.ValueKit.Geometry

@[expose] public section

set_option maxRecDepth 16384

noncomputable section

namespace Cert.KernelIdeal.Attn

open Cert.KernelIdeal Cert.KernelIdeal.Gen
open Cert.Attn (scale slopeOf reach reach_lt)
open Idealize.ShloMosaic Idealize.ShloMosaic.TcCoe Idealize.ShloMosaic.Tactic
open Idealize.ShloMosaic.Pipeline (Dat Cfg Window BodyObligation cellOf)

/-- The columns the edge mask closes at a grid point. -/
def Shut (t j : ℕ) : Prop := (first t ∧ j < 128) ∨ (last t ∧ 256 ≤ j)

/-- A key's row among the three blocks, where the edge mask leaves it open. -/
theorem pick_row (A B C : Fin 128 → EReal) (p : Fin 32768 → EReal) (t : ℕ) (ht : t < 256)
    (hA : ∀ (r : Fin 128) (n : Fin 32768), (n : ℕ) = 128 * (t - 1) + r → A r = p n)
    (hB : ∀ (r : Fin 128) (n : Fin 32768), (n : ℕ) = 128 * t + r → B r = p n)
    (hC : ∀ (r : Fin 128) (n : Fin 32768), (n : ℕ) = 128 * min (t + 1) 255 + r → C r = p n)
    (j : Fin 384) (ho : ¬Shut t j) (n : Fin 32768) (hn : (n : ℕ) + 128 = 128 * t + j) : pick3 A B C j = p n := by
  unfold Shut at ho
  unfold pick3
  by_cases h1 : (j : ℕ) < 128
  · rw [dif_pos h1]
    have h0 : t ≠ 0 := fun h => ho (Or.inl ⟨by rw [h]; rfl, h1⟩)
    exact hA _ _ (by dsimp only; omega)
  · rw [dif_neg h1]
    by_cases h2 : (j : ℕ) - 128 < 128
    · rw [dif_pos h2]; exact hB _ _ (by dsimp only; omega)
    · rw [dif_neg h2]
      have h0 : t ≠ 255 := fun h => ho (Or.inr ⟨by rw [h]; rfl, by omega⟩)
      exact hC _ _ (by dsimp only; omega)

variable (m : (ℓ : Loc nD τ sig) → Buf (Elt Ideal) ℓ)

/-- A masked key's logit. -/
theorem logit_closed (c : Dev nD) (t : Fin (cfgM m).N) (k : ℕ) (hk : k < 8) (g : ℕ) (hg : g < 4) (i : Fin 128) (j : Fin 384)
    (n : Fin 256) (hn : n.val = t.val) (h : ¬(reach i j ≤ 128 ∧ ¬Shut t.val j)) : logitAt m c t k hk g hg i j = ⊥ := by
  unfold Shut at h
  unfold logitAt
  rw [bB_apply, V21_apply, edge_apply m c t j n hn, hn]
  by_cases h1 : (first t.val ∧ (j : ℕ) < 128) ∨ (last t.val ∧ 256 ≤ (j : ℕ))
  · rw [if_pos h1]; exact EReal.add_bot _
  · rw [if_neg h1, if_neg fun h2 => h ⟨h2, h1⟩, EReal.add_bot, add_zero]

/-- An open key's logit: the scaled product of the query's row and the key's, and the bias. -/
theorem logit_open (c : Dev nD) (t : Fin (cfgM m).N) (k : ℕ) (hk : k < 8) (g : ℕ) (hg : g < 4) (i : Fin 128) (j : Fin 384)
    (n : Fin 256) (hn : n.val = t.val) (hd : reach i j ≤ 128) (ho : ¬Shut t.val j)
    (q : Fin 32768) (hq : (q : ℕ) = 128 * t.val + i) (r : Fin 32768) (hr : (r : ℕ) + 128 = 128 * t.val + j) :
    logitAt m c t k hk g hg i j =
      (∑ x : Fin 128, P m c q ⟨128 * (4 * k + g) + x, by omega⟩ * P m c r ⟨4096 + (128 * k + x), by omega⟩) * scale
        + slopeOf (4 * k + g) * (((reach i j : ℕ) : ℝ) : EReal) := by
  have hs := ho
  unfold Shut at hs
  unfold logitAt
  rw [bB_apply, V21_apply, edge_apply m c t j n hn, hn, if_neg hs, if_pos hd, add_zero]
  refine congrArg (· * scale + _) (Finset.sum_congr rfl fun x _ => congrArg₂ (· * ·) ?_ ?_)
  · exact qB_apply m c t i _ q hq _ rfl
  · exact pick_row _ _ _ (fun n => P m c n ⟨4096 + (128 * k + x), by omega⟩) t.val (hn ▸ n.isLt)
      (fun r n h => kP_apply m c t r _ n h _ rfl) (fun r n h => kO_apply m c t r _ n h _ rfl)
      (fun r n h => kN_apply m c t r _ n h _ rfl) j ho r hr

/-- An open key's value. -/
theorem value_open (c : Dev nD) (t : Fin (cfgM m).N) (k : ℕ) (hk : k < 8) (d : Fin 128) (j : Fin 384)
    (n : Fin 256) (hn : n.val = t.val) (ho : ¬Shut t.val j) (r : Fin 32768) (hr : (r : ℕ) + 128 = 128 * t.val + j) :
    pick3 (fun r => vP m c t (ix2 r ⟨128 * k + d, by omega⟩)) (fun r => vO m c t (ix2 r ⟨128 * k + d, by omega⟩))
      (fun r => vN m c t (ix2 r ⟨128 * k + d, by omega⟩)) j = P m c r ⟨5120 + (128 * k + d), by omega⟩ :=
  pick_row _ _ _ (fun n => P m c n ⟨5120 + (128 * k + d), by omega⟩) t.val (hn ▸ n.isLt)
    (fun r n h => vP_apply m c t r _ n h _ rfl) (fun r n h => vO_apply m c t r _ n h _ rfl)
    (fun r n h => vN_apply m c t r _ n h _ rfl) j ho r hr

/-- The projections' rows are the prompts' and then the sample's. -/
theorem P_prompt (c : Dev nD) (n : Fin 32768) (x : Fin 6144) (b : Fin 8) (r : Fin 2048) (hn : (n : ℕ) = 2048 * b + r) :
    P m c n x = (m ((c.tc : Thread nD τ).loc main_arg0) : S8x2048x6144.Idx → EReal) (ix3 b r x) := by
  unfold P V
  simp only [hostOps0, hostOps0_1, List.flatten_cons, List.flatten_nil, List.append_nil, List.cons_append, List.nil_append]
  entry_read
  pointwise
  rw [dif_pos (by omega)]
  refine congrArg (m ((c.tc : Thread nD τ).loc main_arg0) : S8x2048x6144.Idx → EReal) ?_
  exact congrArg₂ (fun b r => ix3 b r x) (Fin.ext (by dsimp only; omega)) (Fin.ext (by dsimp only; omega))

theorem P_sample (c : Dev nD) (n : Fin 32768) (x : Fin 6144) (r : Fin 16384) (hn : (n : ℕ) = 16384 + r) :
    P m c n x = (m ((c.tc : Thread nD τ).loc main_arg1) : S1x16384x6144.Idx → EReal) (ix3 0 r x) := by
  unfold P V
  simp only [hostOps0, hostOps0_1, List.flatten_cons, List.flatten_nil, List.append_nil, List.cons_append, List.nil_append]
  entry_read
  pointwise
  rw [dif_neg (by omega)]
  refine congrArg (m ((c.tc : Thread nD τ).loc main_arg1) : S1x16384x6144.Idx → EReal) ?_
  exact congrArg (fun r => ix3 0 r x) (Fin.ext (by dsimp only; omega))

/-- There are 256 grid points. -/
theorem N_eq : grid0.N = 256 := by decide +kernel

/-- The result's element: row `n` is query `n % 128` of grid point `n / 128`. -/
def outAll (c : Dev nD) : S32768x4096.Idx → EReal := fun z =>
  outVal m c ⟨(z 0 : ℕ) / 128, by have : (z 0 : ℕ) < 32768 := (z 0).isLt; show _ < grid0.N; rw [N_eq]; omega⟩
    (ix2 ⟨(z 0 : ℕ) % 128, Nat.mod_lt _ (by decide)⟩ (z 1))

/-- Tables to read the output's window at: the window asks nothing of them. -/
def anyAdm : (pcfg0 (F := Ideal)).Adm := ⟨fun j => match j with | 0 => fun _ => 0#32 | 1 => fun _ => 0#32, trivial⟩

theorem covers_any : ((cfg0 anyAdm).win 9).Covers := by decide +kernel

theorem covers9 (a : (pcfg0 (F := Ideal)).Adm) : ((cfg0 a).win 9).Covers := covers_any

theorem emb9 (a : (pcfg0 (F := Ideal)).Adm) (t : Fin (cfg0 a).N) (y : S128x4096.Idx) (b : Fin 2) :
    ((((cfg0 a).win 9).blk t).view.emb y b : ℕ) = (![t.val, 0] : Fin 2 → ℕ) b * S128x4096.size b + y b := em9 a t y b

/-- The output array after the run. -/
theorem final (c : Dev nD) : (dats m 0 c).arrAt 9 (cfgM m).N = outAll m c := by
  refine (dats m 0 c).arrAt_eq_of_covers 9 (outAll m c) (covers9 (adm m)) fun t hf y => ?_
  rw [after9]
  refine (outsAt_eq m c t _).trans ?_
  have e0 := emb9 (adm m) t y (0 : Fin 2)
  have e1 := emb9 (adm m) t y (1 : Fin 2)
  have y0 : (y (0 : Fin 2) : ℕ) < 128 := (y (0 : Fin 2)).isLt
  unfold outAll
  refine congrArg₂ (outVal m c) (Fin.ext ?_) (funext fun x => Fin.ext ?_)
  · show t.val = _ / 128
    rw [e0]; show t.val = (t.val * 128 + (y (0 : Fin 2) : ℕ)) / 128; omega
  · fin_cases x
    · show (y (0 : Fin 2) : ℕ) = _ % 128
      rw [e0]; show (y (0 : Fin 2) : ℕ) = (t.val * 128 + (y (0 : Fin 2) : ℕ)) % 128; omega
    · show (y (1 : Fin 2) : ℕ) = _
      refine Eq.trans ?_ e1.symm
      show (y (1 : Fin 2) : ℕ) = 0 * 4096 + (y (1 : Fin 2) : ℕ); omega

theorem first_iff (t : ℕ) : first t = true ↔ (t < 128 ∧ t % 16 = 0) ∨ t = 128 := by simp [first]
theorem last_iff (t : ℕ) : last t = true ↔ (t < 128 ∧ t % 16 = 15) ∨ t = 255 := by simp [last]

/-- Within a prompt, the columns shut are those beyond it. -/
theorem shut_prompt (b : Fin 8) (c : Fin 16) (j : Fin 384) :
    ¬Shut (16 * b + c) j ↔ 128 ≤ 128 * c.val + j.val ∧ 128 * c.val + j.val < 128 + 2048 := by
  unfold Shut; rw [first_iff, last_iff]; omega

theorem shut_sample (c : Fin 128) (j : Fin 384) :
    ¬Shut (128 + c) j ↔ 128 ≤ 128 * c.val + j.val ∧ 128 * c.val + j.val < 128 + 16384 := by
  unfold Shut; rw [first_iff, last_iff]; omega

end Cert.KernelIdeal.Attn

end
-- ==== Proof.Attn.Ref.lean ====
/- The reference's result at an element: softmax attention with a sink over the three blocks of keys. -/
module

public import proofs.«01_k».proof.Proof.Gen.ReferenceIdeal.Run
public import Idealize.ShloMosaic.Lib.Pipeline.ValueKit.Point
public import Idealize.ShloMosaic.Lib.Claim
public import proofs.«01_k».proof.Proof.Attn.Softmax

@[expose] public section

set_option maxRecDepth 16384

noncomputable section

namespace Cert.ReferenceIdeal.Attn

open Cert.ReferenceIdeal Cert.ReferenceIdeal.Gen Cert.ReferenceIdeal.Value
open Idealize.ShloMosaic Idealize.ShloMosaic.TcCoe Idealize.ShloMosaic.Tactic

/-- The maxima of the prompts' logits. -/
def maxP (X : FVec Ideal S8x16x8x4x128x385 .f32) : FVec Ideal S8x16x8x4x128 .f32 :=
  Host.reduce FloatOps.maximumf X (constant S_ .f32 0xFF800000#32) reducesTo_S8x16x8x4x128x385_S8x16x8x4x128_d5 h_S_

/-- The exponentials of the prompts' logits, a row's maximum `M` subtracted. -/
def expP (X : FVec Ideal S8x16x8x4x128x385 .f32) (M : FVec Ideal S8x16x8x4x128 .f32) : FVec Ideal S8x16x8x4x128x385 .f32 :=
  Host.exp (subf X (broadcastInDim S8x16x8x4x128x385 ![0, 1, 2, 3, 4, 5] bcast_S8x16x8x4x128x1_S8x16x8x4x128x385_0_1_2_3_4_5 (broadcastInDim S8x16x8x4x128x1 ![0, 1, 2, 3, 4] bcast_S8x16x8x4x128_S8x16x8x4x128x1_0_1_2_3_4 (maximumf (broadcastInDim S8x16x8x4x128 ![] bcast_S_S8x16x8x4x128 (constant S_ .f32 0xFF800000#32)) M))))

/-- The maxima of the sample's logits. -/
def maxS (X : FVec Ideal S1x128x8x4x128x385 .f32) : FVec Ideal S1x128x8x4x128 .f32 :=
  Host.reduce FloatOps.maximumf X (constant S_ .f32 0xFF800000#32) reducesTo_S1x128x8x4x128x385_S1x128x8x4x128_d5 h_S_

/-- The exponentials of the sample's logits, a row's maximum `M` subtracted. -/
def expS (X : FVec Ideal S1x128x8x4x128x385 .f32) (M : FVec Ideal S1x128x8x4x128 .f32) : FVec Ideal S1x128x8x4x128x385 .f32 :=
  Host.exp (subf X (broadcastInDim S1x128x8x4x128x385 ![0, 1, 2, 3, 4, 5] bcast_S1x128x8x4x128x1_S1x128x8x4x128x385_0_1_2_3_4_5 (broadcastInDim S1x128x8x4x128x1 ![0, 1, 2, 3, 4] bcast_S1x128x8x4x128_S1x128x8x4x128x1_0_1_2_3_4 (maximumf (broadcastInDim S1x128x8x4x128 ![] bcast_S_S1x128x8x4x128 (constant S_ .f32 0xFF800000#32)) M))))

/-- The prompts' rows of the result, of the padded values and the logits. -/
def tailP (VV : FVec Ideal S8x18x128x8x128 .f32) (X : FVec Ideal S8x16x8x4x128x385 .f32) : FVec Ideal S16384x4096 .f32 :=
  shapeCast _ (shapeCast _ (transpose S8x16x128x8x4x128 [0, 1, 5, 2, 4, 3] (Host.dotGeneral dot_S8x16x384x8x128_S8x16x8x4x128x384_S8x16x8x128x4x128_2_5_4_34_013_012 none ((concatenate S8x16x384x8x128 2 [⟨S8x16x128x8x128, ((extractStridedSlice S8x16x128x8x128 ![0, 0, 0, 0, 0] VV slices_S8x18x128x8x128_S8x16x128x8x128_0_0_0_0_0))⟩, ⟨S8x16x128x8x128, ((extractStridedSlice S8x16x128x8x128 ![0, 1, 0, 0, 0] VV slices_S8x18x128x8x128_S8x16x128x8x128_0_1_0_0_0))⟩, ⟨S8x16x128x8x128, ((extractStridedSlice S8x16x128x8x128 ![0, 2, 0, 0, 0] VV slices_S8x18x128x8x128_S8x16x128x8x128_0_2_0_0_0))⟩] concatenates_S8x16x128x8x128_S8x16x128x8x128_S8x16x128x8x128_S8x16x384x8x128_d2)) (extractStridedSlice S8x16x8x4x128x384 ![0, 0, 0, 0, 0, 0] (Host.divf (expP X (maxP X)) (broadcastInDim S8x16x8x4x128x385 ![0, 1, 2, 3, 4, 5] bcast_S8x16x8x4x128x1_S8x16x8x4x128x385_0_1_2_3_4_5 (broadcastInDim S8x16x8x4x128x1 ![0, 1, 2, 3, 4] bcast_S8x16x8x4x128_S8x16x8x4x128x1_0_1_2_3_4 (Host.reduceAdd (expP X (maxP X)) (constant S_ .f32 0x00000000#32) reducesTo_S8x16x8x4x128x385_S8x16x8x4x128_d5 h_S_)))) slices_S8x16x8x4x128x385_S8x16x8x4x128x384_0_0_0_0_0_0)) transposes_S8x16x8x128x4x128_S8x16x128x8x4x128_0_1_5_2_4_3) shapeCasts_S8x16x128x8x4x128_S8x2048x4096) shapeCasts_S8x2048x4096_S16384x4096

/-- The sample's rows of the result, of the padded values and the logits. -/
def tailS (VV : FVec Ideal S1x130x128x8x128 .f32) (X : FVec Ideal S1x128x8x4x128x385 .f32) : FVec Ideal S16384x4096 .f32 :=
  shapeCast _ (shapeCast _ (transpose S1x128x128x8x4x128 [0, 1, 5, 2, 4, 3] (Host.dotGeneral dot_S1x128x384x8x128_S1x128x8x4x128x384_S1x128x8x128x4x128_2_5_4_34_013_012 none ((concatenate S1x128x384x8x128 2 [⟨S1x128x128x8x128, ((extractStridedSlice S1x128x128x8x128 ![0, 0, 0, 0, 0] VV slices_S1x130x128x8x128_S1x128x128x8x128_0_0_0_0_0))⟩, ⟨S1x128x128x8x128, ((extractStridedSlice S1x128x128x8x128 ![0, 1, 0, 0, 0] VV slices_S1x130x128x8x128_S1x128x128x8x128_0_1_0_0_0))⟩, ⟨S1x128x128x8x128, ((extractStridedSlice S1x128x128x8x128 ![0, 2, 0, 0, 0] VV slices_S1x130x128x8x128_S1x128x128x8x128_0_2_0_0_0))⟩] concatenates_S1x128x128x8x128_S1x128x128x8x128_S1x128x128x8x128_S1x128x384x8x128_d2)) (extractStridedSlice S1x128x8x4x128x384 ![0, 0, 0, 0, 0, 0] (Host.divf (expS X (maxS X)) (broadcastInDim S1x128x8x4x128x385 ![0, 1, 2, 3, 4, 5] bcast_S1x128x8x4x128x1_S1x128x8x4x128x385_0_1_2_3_4_5 (broadcastInDim S1x128x8x4x128x1 ![0, 1, 2, 3, 4] bcast_S1x128x8x4x128_S1x128x8x4x128x1_0_1_2_3_4 (Host.reduceAdd (expS X (maxS X)) (constant S_ .f32 0x00000000#32) reducesTo_S1x128x8x4x128x385_S1x128x8x4x128_d5 h_S_)))) slices_S1x128x8x4x128x385_S1x128x8x4x128x384_0_0_0_0_0_0)) transposes_S1x128x8x128x4x128_S1x128x128x8x4x128_0_1_5_2_4_3) shapeCasts_S1x128x128x8x4x128_S1x16384x4096) shapeCasts_S1x16384x4096_S16384x4096

variable (V0 : Valuation τ sig (Elt Ideal))

/-- The reference's result as a function of its arguments' contents. -/
def refOut : FVec Ideal S32768x4096 .bf16 :=
  truncf .bf16 (concatenate S32768x4096 0 [⟨S16384x4096, tailP (res_main_v41 V0) (res_main_v91 V0)⟩, ⟨S16384x4096, tailS (res_main_v121 V0) (res_main_v171 V0)⟩] concatenates_S16384x4096_S16384x4096_S32768x4096_d0) bitsLt_bf16_f32

theorem reduces_P : S8x16x8x4x128x385.Reduces [5] S8x16x8x4x128 := by decide

/-- A row's maximum is over its 385 logits. -/
theorem maxP_apply (X : FVec Ideal S8x16x8x4x128x385 .f32) (b : Fin 8) (c : Fin 16) (kv : Fin 8) (g : Fin 4) (i : Fin 128) :
    maxP X (ix5 b c kv g i) = Finset.fold max Cert.Attn.negInf (fun j : Fin 385 => X (ix6 b c kv g i j)) Finset.univ := by
  refine (Host.reduce_eq_fold_single (max : EReal → EReal → EReal) X _ _ reduces_P _ _).trans ?_
  refine congrArg₂ (fun a f => Finset.fold max a f Finset.univ) rfl ?_
  funext j
  refine congrArg X (funext fun a => Fin.ext ?_)
  fin_cases a <;> rfl

/-- A row's sum is over its 385 exponentials. -/
theorem sumP (X : FVec Ideal S8x16x8x4x128x385 .f32) (z : EReal) (b : Fin 8) (c : Fin 16) (kv : Fin 8) (g : Fin 4) (i : Fin 128) :
    Ideal.hostReduceAdd reducesTo_S8x16x8x4x128x385_S8x16x8x4x128_d5 X z (ix5 b c kv g i) = z + ∑ j : Fin 385, X (ix6 b c kv g i j) := by
  unfold Ideal.hostReduceAdd
  rw [Shape.ReducesTo.drop_eq_drop _ reduces_P, Shape.Reduces.sum_filter_drop_single]
  refine congrArg (z + ·) (Finset.sum_congr rfl fun j _ => ?_)
  refine congrArg X (funext fun a => Fin.ext ?_)
  fin_cases a <;> rfl

theorem expP_apply (X : FVec Ideal S8x16x8x4x128x385 .f32) (M : FVec Ideal S8x16x8x4x128 .f32) (b : Fin 8) (c : Fin 16) (kv : Fin 8) (g : Fin 4) (i : Fin 128) (j : Fin 385) :
    expP X M (ix6 b c kv g i j) = Ideal.exp (X (ix6 b c kv g i j) - max Cert.Attn.negInf (M (ix5 b c kv g i))) := by

  pointwise [expP]

/-- The prompts' part of the result at an element. -/
theorem tailP_apply (VV : FVec Ideal S8x18x128x8x128 .f32) (X : FVec Ideal S8x16x8x4x128x385 .f32) (n : Fin 16384) (y : Fin 4096)
    (b : Fin 8) (c : Fin 16) (kv : Fin 8) (g : Fin 4) (i d : Fin 128) (hb : (n : ℕ) = 2048 * b + 128 * c + i) (hy : (y : ℕ) = 512 * kv + 128 * g + d) :
    tailP VV X (ix2 n y) = Cert.Attn.att (fun j : Fin 384 => X (ix6 b c kv g i j.castSucc)) (X (ix6 b c kv g i (Fin.last 384)))
      (fun j : Fin 384 => VV (ix5 b ⟨c + (j : ℕ) / 128, by omega⟩ ⟨(j : ℕ) % 128, by omega⟩ kv d)) := by

  pointwise [tailP]
  have e1 : (n : ℕ) / 2048 = b := by omega
  have e2 : (n : ℕ) / 128 % 16 = c := by omega
  have e3 : (n : ℕ) % 128 = i := by omega
  have e4 : (y : ℕ) / 512 = kv := by omega
  have e5 : (y : ℕ) / 128 % 4 = g := by omega
  have e6 : (y : ℕ) % 128 = d := by omega
  simp only [e1, e2, e3, e4, e5, e6, Fin.eta]
  refine Eq.trans (Finset.sum_congr rfl fun x _ => ?_) (Cert.Attn.att_last (fun j : Fin 385 => X (ix6 b c kv g i j)) _)
  refine congrArg₂ (· * ·) ?_ (congrArg₂ Ideal.div ?_ ?_)
  · have hx := x.isLt
    by_cases h1 : (x : ℕ) < 128
    · rw [dif_pos h1]; blk_ext
    · rw [dif_neg h1]
      by_cases h2 : (x : ℕ) - 128 < 128
      · rw [dif_pos h2]; blk_ext
      · rw [dif_neg h2]; blk_ext
  · rw [expP_apply, maxP_apply]; rfl
  · rw [sumP]
    simp only [expP_apply, maxP_apply]

theorem reduces_S : S1x128x8x4x128x385.Reduces [5] S1x128x8x4x128 := by decide

/-- A row's maximum is over its 385 logits. -/
theorem maxS_apply (X : FVec Ideal S1x128x8x4x128x385 .f32) (b : Fin 1) (c : Fin 128) (kv : Fin 8) (g : Fin 4) (i : Fin 128) :
    maxS X (ix5 b c kv g i) = Finset.fold max Cert.Attn.negInf (fun j : Fin 385 => X (ix6 b c kv g i j)) Finset.univ := by
  refine (Host.reduce_eq_fold_single (max : EReal → EReal → EReal) X _ _ reduces_S _ _).trans ?_
  refine congrArg₂ (fun a f => Finset.fold max a f Finset.univ) rfl ?_
  funext j
  refine congrArg X (funext fun a => Fin.ext ?_)
  fin_cases a <;> rfl

/-- A row's sum is over its 385 exponentials. -/
theorem sumS (X : FVec Ideal S1x128x8x4x128x385 .f32) (z : EReal) (b : Fin 1) (c : Fin 128) (kv : Fin 8) (g : Fin 4) (i : Fin 128) :
    Ideal.hostReduceAdd reducesTo_S1x128x8x4x128x385_S1x128x8x4x128_d5 X z (ix5 b c kv g i) = z + ∑ j : Fin 385, X (ix6 b c kv g i j) := by
  unfold Ideal.hostReduceAdd
  rw [Shape.ReducesTo.drop_eq_drop _ reduces_S, Shape.Reduces.sum_filter_drop_single]
  refine congrArg (z + ·) (Finset.sum_congr rfl fun j _ => ?_)
  refine congrArg X (funext fun a => Fin.ext ?_)
  fin_cases a <;> rfl

theorem expS_apply (X : FVec Ideal S1x128x8x4x128x385 .f32) (M : FVec Ideal S1x128x8x4x128 .f32) (b : Fin 1) (c : Fin 128) (kv : Fin 8) (g : Fin 4) (i : Fin 128) (j : Fin 385) :
    expS X M (ix6 b c kv g i j) = Ideal.exp (X (ix6 b c kv g i j) - max Cert.Attn.negInf (M (ix5 b c kv g i))) := by
  obtain rfl : b = 0 := Subsingleton.elim _ _
  pointwise [expS]

/-- The sample's part of the result at an element. -/
theorem tailS_apply (VV : FVec Ideal S1x130x128x8x128 .f32) (X : FVec Ideal S1x128x8x4x128x385 .f32) (n : Fin 16384) (y : Fin 4096)
    (b : Fin 1) (c : Fin 128) (kv : Fin 8) (g : Fin 4) (i d : Fin 128) (hb : (n : ℕ) = 16384 * b + 128 * c + i) (hy : (y : ℕ) = 512 * kv + 128 * g + d) :
    tailS VV X (ix2 n y) = Cert.Attn.att (fun j : Fin 384 => X (ix6 b c kv g i j.castSucc)) (X (ix6 b c kv g i (Fin.last 384)))
      (fun j : Fin 384 => VV (ix5 b ⟨c + (j : ℕ) / 128, by omega⟩ ⟨(j : ℕ) % 128, by omega⟩ kv d)) := by
  obtain rfl : b = 0 := Subsingleton.elim _ _
  pointwise [tailS]
  have hb2 : ((0 : Fin 1) : ℕ) = 0 := rfl
  have e2 : (n : ℕ) / 128 = c := by omega
  have e3 : (n : ℕ) % 128 = i := by omega
  have e4 : (y : ℕ) / 512 = kv := by omega
  have e5 : (y : ℕ) / 128 % 4 = g := by omega
  have e6 : (y : ℕ) % 128 = d := by omega
  simp only [e2, e3, e4, e5, e6, Fin.eta]
  refine Eq.trans (Finset.sum_congr rfl fun x _ => ?_) (Cert.Attn.att_last (fun j : Fin 385 => X (ix6 0 c kv g i j)) _)
  refine congrArg₂ (· * ·) ?_ (congrArg₂ Ideal.div ?_ ?_)
  · have hx := x.isLt
    by_cases h1 : (x : ℕ) < 128
    · rw [dif_pos h1]; blk_ext
    · rw [dif_neg h1]
      by_cases h2 : (x : ℕ) - 128 < 128
      · rw [dif_pos h2]; blk_ext
      · rw [dif_neg h2]; blk_ext
  · rw [expS_apply, maxS_apply]; rfl
  · rw [sumS]
    simp only [expS_apply, maxS_apply]

end Cert.ReferenceIdeal.Attn
end
-- ==== Proof.Attn.Words.lean ====
/- The reference's mask words: a query's distance from a key, and the range of a sequence. -/
module

public import proofs.«01_k».proof.Proof.Attn.Slope

@[expose] public section

noncomputable section

namespace Cert.ReferenceIdeal.Attn

open Cert.Attn (reach reach_lt)
open Idealize.ShloMosaic

theorem reach_word : ∀ (i : Fin 128) (j : Fin 384),
    IntOp.absi (IntOp.subi (IntOp.subi (BitVec.ofNat 32 j.val) 128#32) (BitVec.ofNat 32 i.val)) = BitVec.ofNat 32 (reach i j) := by
  decide +kernel

theorem window_word : ∀ d : Fin 256, IntOp.cmpi .sle (BitVec.ofNat 32 d.val) 128#32 = if d.val ≤ 128 then 1#1 else 0#1 := by
  decide +kernel

theorem reach_float (d : ℕ) (h : d < 256) : (FloatOps.sitofp (F := Ideal) .f32 (BitVec.ofNat 32 d) : EReal) = (((d : ℕ) : ℝ) : EReal) := by
  have e : (BitVec.ofNat 32 d).toInt = (d : Int) := by
    rw [BitVec.toInt_eq_toNat_of_lt] <;> simp <;> omega
  show (((BitVec.ofNat 32 d).toInt : ℝ) : EReal) = _
  rw [e]; simp

theorem range_wordP : ∀ (c : Fin 16) (j : Fin 384),
    IntOp.andi (IntOp.cmpi .sge (IntOp.addi (IntOp.subi (IntOp.muli (BitVec.ofNat 32 c.val) 128#32) 128#32) (BitVec.ofNat 32 j.val)) 0#32)
      (IntOp.cmpi .slt (IntOp.addi (IntOp.subi (IntOp.muli (BitVec.ofNat 32 c.val) 128#32) 128#32) (BitVec.ofNat 32 j.val)) 2048#32)
      = if 128 ≤ 128 * c.val + j.val ∧ 128 * c.val + j.val < 128 + 2048 then 1#1 else 0#1 := by decide +kernel

theorem range_wordS : ∀ (c : Fin 128) (j : Fin 384),
    IntOp.andi (IntOp.cmpi .sge (IntOp.addi (IntOp.subi (IntOp.muli (BitVec.ofNat 32 c.val) 128#32) 128#32) (BitVec.ofNat 32 j.val)) 0#32)
      (IntOp.cmpi .slt (IntOp.addi (IntOp.subi (IntOp.muli (BitVec.ofNat 32 c.val) 128#32) 128#32) (BitVec.ofNat 32 j.val)) 16384#32)
      = if 128 ≤ 128 * c.val + j.val ∧ 128 * c.val + j.val < 128 + 16384 then 1#1 else 0#1 := by decide +kernel

end Cert.ReferenceIdeal.Attn

end
-- ==== Proof.Attn.RefLogit.lean ====
/- The reference's logits and values at an element: the masks and the padding read as a condition on the row. -/
module

public import proofs.«01_k».proof.Proof.Attn.Ref
public import proofs.«01_k».proof.Proof.Attn.Words

@[expose] public section

set_option maxRecDepth 16384

noncomputable section

namespace Cert.ReferenceIdeal.Attn

open Cert.ReferenceIdeal Cert.ReferenceIdeal.Gen Cert.ReferenceIdeal.Value
open Cert.Attn (scale slopeOf reach reach_lt)
open Idealize.ShloMosaic Idealize.ShloMosaic.TcCoe Idealize.ShloMosaic.Tactic

variable (V0 : Valuation τ sig (Elt Ideal))

/-- The bias at a head, a query and a key. -/
theorem bias_apply (kv : Fin 8) (g : Fin 4) (i : Fin 128) (j : Fin 384) :
    (res_main_v27 V0 : S8x4x128x384.Idx → EReal) (ix4 kv g i j) = slopeOf (4 * kv + g) * (((reach i j : ℕ) : ℝ) : EReal) := by
  have e : (res_main_v27 V0 : S8x4x128x384.Idx → EReal) (ix4 kv g i j) = slopeOf (kv * 4 + g)
      * FloatOps.sitofp (F := Ideal) .f32 (IntOp.absi (IntOp.subi (IntOp.subi (BitVec.ofNat 32 j.val) 128#32) (BitVec.ofNat 32 i.val))) := by
    pointwise [res_main_v27]
    rfl
  rw [e, reach_word, reach_float _ (reach_lt i j), Nat.mul_comm]

theorem and_ite (A B : Prop) [Decidable A] [Decidable B] :
    IntOp.andi (if A then 1#1 else 0#1) (if B then 1#1 else 0#1) = if A ∧ B then 1#1 else 0#1 := by
  by_cases h1 : A <;> by_cases h2 : B <;> simp only [h1, h2, if_true, if_false, and_self, and_true, and_false, true_and, false_and] <;> rfl

/-- An element of the prompts' projections. -/
def rowP (b : Fin 8) (n : Fin 2048) (z : Fin 6144) : EReal := (V0 (Proc.devRef .tc main_arg0) : S8x2048x6144.Idx → EReal) (ix3 b n z)

/-- An element of the prompts' padded keys. -/
def padP (b : Fin 8) (c : Fin 18) (r : Fin 128) (kv : Fin 8) (x : Fin 128) : EReal :=
  (res_main_v35 V0 : S8x18x128x8x128.Idx → EReal) (ix5 b c r kv x)

/-- The prompts' padded keys: the rows themselves, where they are rows of the prompt. -/
theorem keyP_apply (b : Fin 8) (c : Fin 18) (r : Fin 128) (kv : Fin 8) (x : Fin 128) (n : Fin 2048) (hn : (n : ℕ) + 128 = 128 * c + r)
    (z : Fin 6144) (hz : (z : ℕ) = 4096 + (128 * kv + x)) :
    (res_main_v35 V0 : S8x18x128x8x128.Idx → EReal) (ix5 b c r kv x) = rowP V0 b n z := by
  unfold rowP
  pointwise [res_main_v35]
  rw [dif_pos (by omega)]
  congr 2 <;> apply Fin.ext <;> (try dsimp only) <;> omega

/-- The prompts' padded values: the rows themselves, where they are rows of the prompt. -/
theorem valueP_apply (b : Fin 8) (c : Fin 18) (r : Fin 128) (kv : Fin 8) (x : Fin 128) (n : Fin 2048) (hn : (n : ℕ) + 128 = 128 * c + r)
    (z : Fin 6144) (hz : (z : ℕ) = 5120 + (128 * kv + x)) :
    (res_main_v41 V0 : S8x18x128x8x128.Idx → EReal) (ix5 b c r kv x) = rowP V0 b n z := by
  unfold rowP
  pointwise [res_main_v41]
  rw [dif_pos (by omega)]
  congr 2 <;> apply Fin.ext <;> (try dsimp only) <;> omega

/-- The prompts' logit at a key, its two masks and its three blocks spelt out. -/
theorem logitP_form (b : Fin 8) (c : Fin 16) (kv : Fin 8) (g : Fin 4) (i : Fin 128) (j : Fin 384) (j' : Fin 385) (hj : (j' : ℕ) = j) :
    (res_main_v91 V0 : S8x16x8x4x128x385.Idx → EReal) (ix6 b c kv g i j') =
      Scalar.select (if reach i j ≤ 128 ∧ 128 ≤ 128 * c.val + j.val ∧ 128 * c.val + j.val < 128 + 2048 then 1#1 else 0#1)
        ((∑ x : Fin 128, padP V0 b ⟨c + (j : ℕ) / 128, by omega⟩ ⟨(j : ℕ) % 128, by omega⟩ kv x
          * rowP V0 b ⟨128 * c + i, by omega⟩ ⟨128 * (4 * kv + g) + x, by omega⟩) * scale
          + slopeOf (4 * kv + g) * (((reach i j : ℕ) : ℝ) : EReal)) (⊥ : EReal) := by
  have e60 : (res_main_v60 V0 : S16x384.Idx → BitVec 32) (ix2 c j)
      = IntOp.addi (IntOp.subi (IntOp.muli (BitVec.ofNat 32 c.val) 128#32) 128#32) (BitVec.ofNat 32 j.val) := by
    pointwise [res_main_v60]
  pointwise [res_main_v91]
  rw [dif_pos (by omega)]
  have ej : ∀ h : (j' : ℕ) < 384, (⟨j', h⟩ : Fin 384) = j := fun h => Fin.ext hj
  simp only [ej]
  refine congr (congr (congrArg Scalar.select ?_) ?_) Cert.Attn.negInf_eq
  · rw [hj, reach_word, e60, window_word ⟨reach i j, reach_lt i j⟩, range_wordP c j]
    exact and_ite (reach i j ≤ 128) (128 ≤ 128 * c.val + j.val ∧ 128 * c.val + j.val < 128 + 2048)
  · rw [bias_apply]
    refine congrArg (· * scale + _) (Finset.sum_congr rfl fun x _ => congrArg₂ (· * ·) ?_ ?_)
    · by_cases h1 : (j' : ℕ) < 128
      · rw [dif_pos h1]
        exact congrArg₂ (fun (c : Fin 18) (r : Fin 128) => padP V0 b c r kv x) (Fin.ext (by dsimp only; omega)) (Fin.ext (by dsimp only; omega))
      · rw [dif_neg h1]
        by_cases h2 : (j' : ℕ) - 128 < 128
        · rw [dif_pos h2]
          exact congrArg₂ (fun (c : Fin 18) (r : Fin 128) => padP V0 b c r kv x) (Fin.ext (by dsimp only; omega)) (Fin.ext (by dsimp only; omega))
        · rw [dif_neg h2]
          exact congrArg₂ (fun (c : Fin 18) (r : Fin 128) => padP V0 b c r kv x) (Fin.ext (by dsimp only; omega)) (Fin.ext (by dsimp only; omega))
    · exact congrArg₂ (fun (n : Fin 2048) (z : Fin 6144) => rowP V0 b n z) (Fin.ext (by dsimp only; omega)) (Fin.ext (by dsimp only; omega))

/-- A key the masks leave open: the scaled product of the query's row and the key's, and the bias. -/
theorem logitP_open (b : Fin 8) (c : Fin 16) (kv : Fin 8) (g : Fin 4) (i : Fin 128) (j : Fin 384) (hd : reach i j ≤ 128)
    (n : Fin 2048) (hn : (n : ℕ) + 128 = 128 * c + j) :
    (res_main_v91 V0 : S8x16x8x4x128x385.Idx → EReal) (ix6 b c kv g i j.castSucc) =
      (∑ x : Fin 128, rowP V0 b ⟨128 * c + i, by omega⟩ ⟨128 * (4 * kv + g) + x, by omega⟩
        * rowP V0 b n ⟨4096 + (128 * kv + x), by omega⟩) * scale
      + slopeOf (4 * kv + g) * (((reach i j : ℕ) : ℝ) : EReal) := by
  rw [logitP_form V0 b c kv g i j j.castSucc rfl, if_pos ⟨hd, by omega, by omega⟩]
  refine congrArg (· * scale + _) (Finset.sum_congr rfl fun x _ => ?_)
  rw [mul_comm]
  exact congrArg (rowP V0 b _ _ * ·) (keyP_apply V0 b _ _ kv x n (by dsimp only; omega) ⟨4096 + (128 * kv + x), by omega⟩ rfl)

/-- A key they close. -/
theorem logitP_closed (b : Fin 8) (c : Fin 16) (kv : Fin 8) (g : Fin 4) (i : Fin 128) (j : Fin 384)
    (h : ¬(reach i j ≤ 128 ∧ 128 ≤ 128 * c.val + j.val ∧ 128 * c.val + j.val < 128 + 2048)) :
    (res_main_v91 V0 : S8x16x8x4x128x385.Idx → EReal) (ix6 b c kv g i j.castSucc) = (⊥ : EReal) := by
  rw [logitP_form V0 b c kv g i j j.castSucc rfl, if_neg h]
  rfl

/-- The prompts' last logit is the sink. -/
theorem logitP_last (b : Fin 8) (c : Fin 16) (kv : Fin 8) (g : Fin 4) (i : Fin 128) (j' : Fin 385) (hj : (j' : ℕ) = 384) :
    (res_main_v91 V0 : S8x16x8x4x128x385.Idx → EReal) (ix6 b c kv g i j')
      = (V0 (Proc.devRef .tc main_arg2) : S32.Idx → EReal) (ix1 ⟨4 * kv + g, by omega⟩) := by
  pointwise [res_main_v91]
  rw [dif_neg (by omega)]
  congr 2; apply Fin.ext; dsimp only; omega

/-- An element of the sample's projections. -/
def rowS (n : Fin 16384) (z : Fin 6144) : EReal := (V0 (Proc.devRef .tc main_arg1) : S1x16384x6144.Idx → EReal) (ix3 0 n z)

/-- An element of the sample's padded keys. -/
def padS (c : Fin 130) (r : Fin 128) (kv : Fin 8) (x : Fin 128) : EReal :=
  (res_main_v115 V0 : S1x130x128x8x128.Idx → EReal) (ix5 0 c r kv x)

/-- The sample's padded keys: the rows themselves, where they are rows of the sample. -/
theorem keyS_apply (c : Fin 130) (r : Fin 128) (kv : Fin 8) (x : Fin 128) (n : Fin 16384) (hn : (n : ℕ) + 128 = 128 * c + r)
    (z : Fin 6144) (hz : (z : ℕ) = 4096 + (128 * kv + x)) :
    (res_main_v115 V0 : S1x130x128x8x128.Idx → EReal) (ix5 0 c r kv x) = rowS V0 n z := by
  unfold rowS
  pointwise [res_main_v115]
  rw [dif_pos (by omega)]
  congr 2 <;> apply Fin.ext <;> (try dsimp only) <;> omega

/-- The sample's padded values: the rows themselves, where they are rows of the sample. -/
theorem valueS_apply (c : Fin 130) (r : Fin 128) (kv : Fin 8) (x : Fin 128) (n : Fin 16384) (hn : (n : ℕ) + 128 = 128 * c + r)
    (z : Fin 6144) (hz : (z : ℕ) = 5120 + (128 * kv + x)) :
    (res_main_v121 V0 : S1x130x128x8x128.Idx → EReal) (ix5 0 c r kv x) = rowS V0 n z := by
  unfold rowS
  pointwise [res_main_v121]
  rw [dif_pos (by omega)]
  congr 2 <;> apply Fin.ext <;> (try dsimp only) <;> omega

/-- The sample's logit at a key, its two masks and its three blocks spelt out. -/
theorem logitS_form (c : Fin 128) (kv : Fin 8) (g : Fin 4) (i : Fin 128) (j : Fin 384) (j' : Fin 385) (hj : (j' : ℕ) = j) :
    (res_main_v171 V0 : S1x128x8x4x128x385.Idx → EReal) (ix6 0 c kv g i j') =
      Scalar.select (if reach i j ≤ 128 ∧ 128 ≤ 128 * c.val + j.val ∧ 128 * c.val + j.val < 128 + 16384 then 1#1 else 0#1)
        ((∑ x : Fin 128, padS V0 ⟨c + (j : ℕ) / 128, by omega⟩ ⟨(j : ℕ) % 128, by omega⟩ kv x
          * rowS V0 ⟨128 * c + i, by omega⟩ ⟨128 * (4 * kv + g) + x, by omega⟩) * scale
          + slopeOf (4 * kv + g) * (((reach i j : ℕ) : ℝ) : EReal)) (⊥ : EReal) := by
  have e60 : (res_main_v140 V0 : S128x384.Idx → BitVec 32) (ix2 c j)
      = IntOp.addi (IntOp.subi (IntOp.muli (BitVec.ofNat 32 c.val) 128#32) 128#32) (BitVec.ofNat 32 j.val) := by
    pointwise [res_main_v140]
  pointwise [res_main_v171]
  rw [dif_pos (by omega)]
  have ej : ∀ h : (j' : ℕ) < 384, (⟨j', h⟩ : Fin 384) = j := fun h => Fin.ext hj
  simp only [ej]
  refine congr (congr (congrArg Scalar.select ?_) ?_) Cert.Attn.negInf_eq
  · rw [hj, reach_word, e60, window_word ⟨reach i j, reach_lt i j⟩, range_wordS c j]
    exact and_ite (reach i j ≤ 128) (128 ≤ 128 * c.val + j.val ∧ 128 * c.val + j.val < 128 + 16384)
  · rw [bias_apply]
    refine congrArg (· * scale + _) (Finset.sum_congr rfl fun x _ => congrArg₂ (· * ·) ?_ ?_)
    · by_cases h1 : (j' : ℕ) < 128
      · rw [dif_pos h1]
        exact congrArg₂ (fun (c : Fin 130) (r : Fin 128) => padS V0 c r kv x) (Fin.ext (by dsimp only; omega)) (Fin.ext (by dsimp only; omega))
      · rw [dif_neg h1]
        by_cases h2 : (j' : ℕ) - 128 < 128
        · rw [dif_pos h2]
          exact congrArg₂ (fun (c : Fin 130) (r : Fin 128) => padS V0 c r kv x) (Fin.ext (by dsimp only; omega)) (Fin.ext (by dsimp only; omega))
        · rw [dif_neg h2]
          exact congrArg₂ (fun (c : Fin 130) (r : Fin 128) => padS V0 c r kv x) (Fin.ext (by dsimp only; omega)) (Fin.ext (by dsimp only; omega))
    · exact congrArg₂ (fun (n : Fin 16384) (z : Fin 6144) => rowS V0 n z) (Fin.ext (by dsimp only; omega)) (Fin.ext (by dsimp only; omega))

/-- A key the masks leave open: the scaled product of the query's row and the key's, and the bias. -/
theorem logitS_open (c : Fin 128) (kv : Fin 8) (g : Fin 4) (i : Fin 128) (j : Fin 384) (hd : reach i j ≤ 128)
    (n : Fin 16384) (hn : (n : ℕ) + 128 = 128 * c + j) :
    (res_main_v171 V0 : S1x128x8x4x128x385.Idx → EReal) (ix6 0 c kv g i j.castSucc) =
      (∑ x : Fin 128, rowS V0 ⟨128 * c + i, by omega⟩ ⟨128 * (4 * kv + g) + x, by omega⟩
        * rowS V0 n ⟨4096 + (128 * kv + x), by omega⟩) * scale
      + slopeOf (4 * kv + g) * (((reach i j : ℕ) : ℝ) : EReal) := by
  rw [logitS_form V0 c kv g i j j.castSucc rfl, if_pos ⟨hd, by omega, by omega⟩]
  refine congrArg (· * scale + _) (Finset.sum_congr rfl fun x _ => ?_)
  rw [mul_comm]
  exact congrArg (rowS V0 _ _ * ·) (keyS_apply V0 _ _ kv x n (by dsimp only; omega) ⟨4096 + (128 * kv + x), by omega⟩ rfl)

/-- A key they close. -/
theorem logitS_closed (c : Fin 128) (kv : Fin 8) (g : Fin 4) (i : Fin 128) (j : Fin 384)
    (h : ¬(reach i j ≤ 128 ∧ 128 ≤ 128 * c.val + j.val ∧ 128 * c.val + j.val < 128 + 16384)) :
    (res_main_v171 V0 : S1x128x8x4x128x385.Idx → EReal) (ix6 0 c kv g i j.castSucc) = (⊥ : EReal) := by
  rw [logitS_form V0 c kv g i j j.castSucc rfl, if_neg h]
  rfl

/-- The sample's last logit is the sink. -/
theorem logitS_last (c : Fin 128) (kv : Fin 8) (g : Fin 4) (i : Fin 128) (j' : Fin 385) (hj : (j' : ℕ) = 384) :
    (res_main_v171 V0 : S1x128x8x4x128x385.Idx → EReal) (ix6 0 c kv g i j')
      = (V0 (Proc.devRef .tc main_arg2) : S32.Idx → EReal) (ix1 ⟨4 * kv + g, by omega⟩) := by
  pointwise [res_main_v171]
  rw [dif_neg (by omega)]
  congr 2; apply Fin.ext; dsimp only; omega

end Cert.ReferenceIdeal.Attn

end
-- ==== Proof.Attn.Value.lean ====
/- The attention's value: over the extended reals, where the queries, the keys and the sinks are real, the kernel leaves what
   the reference leaves. -/
module

public import proofs.«01_k».proof.Defs
public import proofs.«01_k».proof.Pre_finite
public import proofs.«01_k».proof.Proof.Attn.Kernel
public import proofs.«01_k».proof.Proof.Attn.FrameIdeal
public import Idealize.ShloMosaic.Lib.Quiescent
public import proofs.«01_k».proof.Proof.Attn.RefLogit

@[expose] public section

set_option maxRecDepth 16384

noncomputable section

namespace Cert.Attn

open Cert.KernelIdeal.Attn Cert.ReferenceIdeal.Attn
open Idealize.ShloMosaic Idealize.ShloMosaic.TcCoe Idealize.SL.Sem Idealize.ShloMosaic.StableHlo

/-- What the two sides are compared under: the reference's arguments are the kernel's, the queries and keys are real and so
    are the sinks. -/
structure Same (m : (ℓ : Loc KernelIdeal.nD KernelIdeal.τ KernelIdeal.sig) → Buf (Elt Ideal) ℓ) (c : Dev KernelIdeal.nD)
    (V0 : Valuation ReferenceIdeal.τ ReferenceIdeal.sig (Elt Ideal)) : Prop where
  prompt : ∀ (n : Fin 32768) (z : Fin 6144) (b : Fin 8) (r : Fin 2048), (n : ℕ) = 2048 * b + r → P m c n z = rowP V0 b r z
  sample : ∀ (n : Fin 32768) (z : Fin 6144) (r : Fin 16384), (n : ℕ) = 16384 + r → P m c n z = rowS V0 r z
  sink : ∀ h : Fin 32, (KernelIdeal.Attn.V m c KernelIdeal.main_arg2 : KernelIdeal.S32.Idx → EReal) (ix1 h)
    = (V0 (Proc.devRef .tc ReferenceIdeal.main_arg2) : ReferenceIdeal.S32.Idx → EReal) (ix1 h)
  real : ∀ (n : Fin 32768) (z : Fin 6144), (z : ℕ) < 5120 → ∃ r : ℝ, P m c n z = r
  realSink : ∀ h : Fin 32, ∃ r : ℝ, @Eq EReal ((KernelIdeal.Attn.V m c KernelIdeal.main_arg2 : KernelIdeal.S32.Idx → EReal) (ix1 h)) (r : EReal)

variable {m : (ℓ : Loc KernelIdeal.nD KernelIdeal.τ KernelIdeal.sig) → Buf (Elt Ideal) ℓ} {c : Dev KernelIdeal.nD}
    {V0 : Valuation ReferenceIdeal.τ ReferenceIdeal.sig (Elt Ideal)}

/-- No logit of the kernel is infinite above. -/
theorem logit_real (hs : Same m c V0) (t : Fin (cfgM m).N) (k : ℕ) (hk : k < 8) (g : ℕ) (hg : g < 4) (i : Fin 128) (j : Fin 384) :
    logitAt m c t k hk g hg i j ≠ ⊤ := by
  have ht : t.val < 256 := by rw [← N_eq]; exact t.isLt
  by_cases h : reach i j ≤ 128 ∧ ¬Shut t.val j
  · have hj : 128 ≤ 128 * t.val + j ∧ 128 * t.val + j < 128 + 32768 := by
      have h2 := h.2
      unfold Shut at h2; rw [first_iff, last_iff] at h2; omega
    rw [logit_open m c t k hk g hg i j ⟨t.val, ht⟩ rfl h.1 h.2 ⟨128 * t.val + i, by omega⟩ rfl
      ⟨128 * t.val + j - 128, by omega⟩ (by dsimp only; omega)]
    exact logit_ne_top _ _ (fun x => hs.real _ _ (by dsimp only; omega)) (fun x => hs.real _ _ (by dsimp only; omega)) _ _
  · rw [logit_closed m c t k hk g hg i j ⟨t.val, ht⟩ rfl h]
    exact bot_ne_top

/-- A head's output over the prompts. -/
theorem head_prompt (hs : Same m c V0) (t : Fin (cfgM m).N) (b : Fin 8) (cc : Fin 16) (ht : t.val = 16 * b + cc) (kv : Fin 8)
    (g : Fin 4) (i d : Fin 128) :
    headOf m c t kv kv.isLt g g.isLt (ix2 i d) =
      att (fun j : Fin 384 => (ReferenceIdeal.Value.res_main_v91 V0 : ReferenceIdeal.S8x16x8x4x128x385.Idx → EReal) (ix6 b cc kv g i j.castSucc))
        ((ReferenceIdeal.Value.res_main_v91 V0 : ReferenceIdeal.S8x16x8x4x128x385.Idx → EReal) (ix6 b cc kv g i (Fin.last 384)))
        (fun j : Fin 384 => (ReferenceIdeal.Value.res_main_v41 V0 : ReferenceIdeal.S8x18x128x8x128.Idx → EReal)
          (ix5 b ⟨cc + (j : ℕ) / 128, by omega⟩ ⟨(j : ℕ) % 128, by omega⟩ kv d)) := by
  rw [headOf_apply, zB_apply, logitP_last V0 b cc kv g i _ rfl, ← hs.sink]
  obtain ⟨z, hz⟩ := hs.realSink ⟨4 * kv + g, by omega⟩
  refine att_congr _ _ _ _ _ (fun j => ?_) (fun j => logit_real hs t _ _ _ _ i j) (by rw [hz]; exact EReal.coe_ne_top z)
    (by rw [hz]; exact EReal.coe_ne_bot z) fun j hj => ?_
  · by_cases h : reach i j ≤ 128 ∧ 128 ≤ 128 * cc.val + j.val ∧ 128 * cc.val + j.val < 128 + 2048
    · rw [logitP_open V0 b cc kv g i j h.1 ⟨128 * cc + j - 128, by omega⟩ (by dsimp only; omega),
        logit_open m c t kv kv.isLt g g.isLt i j ⟨t.val, by omega⟩ rfl h.1 (by rw [ht]; exact (shut_prompt b cc j).mpr h.2)
          ⟨128 * t.val + i, by omega⟩ rfl ⟨128 * t.val + j - 128, by omega⟩ (by dsimp only; omega)]
      refine congrArg (· * scale + _) (Finset.sum_congr rfl fun x _ => congrArg₂ (· * ·) ?_ ?_)
      · exact hs.prompt _ _ b _ (by dsimp only; omega)
      · exact hs.prompt _ _ b _ (by dsimp only; omega)
    · rw [logitP_closed V0 b cc kv g i j h, logit_closed m c t kv kv.isLt g g.isLt i j ⟨t.val, by omega⟩ rfl
        (by rw [ht, shut_prompt b cc j]; exact h)]
  · have h : reach i j ≤ 128 ∧ ¬Shut t.val j := by
      by_contra h
      exact hj (logit_closed m c t kv kv.isLt g g.isLt i j ⟨t.val, by omega⟩ rfl h)
    have h2 := h.2
    rw [ht, shut_prompt b cc j] at h2
    rw [value_open m c t kv kv.isLt d j ⟨t.val, by omega⟩ rfl h.2 ⟨128 * t.val + j - 128, by omega⟩ (by dsimp only; omega)]
    exact (hs.prompt _ _ b ⟨128 * cc + j - 128, by omega⟩ (by dsimp only; omega)).trans
      (valueP_apply V0 b _ _ kv d _ (by dsimp only; omega) _ rfl).symm

/-- A head's output over the sample. -/
theorem head_sample (hs : Same m c V0) (t : Fin (cfgM m).N) (cc : Fin 128) (ht : t.val = 128 + cc) (kv : Fin 8)
    (g : Fin 4) (i d : Fin 128) :
    headOf m c t kv kv.isLt g g.isLt (ix2 i d) =
      att (fun j : Fin 384 => (ReferenceIdeal.Value.res_main_v171 V0 : ReferenceIdeal.S1x128x8x4x128x385.Idx → EReal) (ix6 0 cc kv g i j.castSucc))
        ((ReferenceIdeal.Value.res_main_v171 V0 : ReferenceIdeal.S1x128x8x4x128x385.Idx → EReal) (ix6 0 cc kv g i (Fin.last 384)))
        (fun j : Fin 384 => (ReferenceIdeal.Value.res_main_v121 V0 : ReferenceIdeal.S1x130x128x8x128.Idx → EReal)
          (ix5 0 ⟨cc + (j : ℕ) / 128, by omega⟩ ⟨(j : ℕ) % 128, by omega⟩ kv d)) := by
  rw [headOf_apply, zB_apply, logitS_last V0 cc kv g i _ rfl, ← hs.sink]
  obtain ⟨z, hz⟩ := hs.realSink ⟨4 * kv + g, by omega⟩
  refine att_congr _ _ _ _ _ (fun j => ?_) (fun j => logit_real hs t _ _ _ _ i j) (by rw [hz]; exact EReal.coe_ne_top z)
    (by rw [hz]; exact EReal.coe_ne_bot z) fun j hj => ?_
  · by_cases h : reach i j ≤ 128 ∧ 128 ≤ 128 * cc.val + j.val ∧ 128 * cc.val + j.val < 128 + 16384
    · rw [logitS_open V0 cc kv g i j h.1 ⟨128 * cc + j - 128, by omega⟩ (by dsimp only; omega),
        logit_open m c t kv kv.isLt g g.isLt i j ⟨t.val, by omega⟩ rfl h.1 (by rw [ht]; exact (shut_sample cc j).mpr h.2)
          ⟨128 * t.val + i, by omega⟩ rfl ⟨128 * t.val + j - 128, by omega⟩ (by dsimp only; omega)]
      refine congrArg (· * scale + _) (Finset.sum_congr rfl fun x _ => congrArg₂ (· * ·) ?_ ?_)
      · exact hs.sample _ _ _ (by dsimp only; omega)
      · exact hs.sample _ _ _ (by dsimp only; omega)
    · rw [logitS_closed V0 cc kv g i j h, logit_closed m c t kv kv.isLt g g.isLt i j ⟨t.val, by omega⟩ rfl
        (by rw [ht, shut_sample cc j]; exact h)]
  · have h : reach i j ≤ 128 ∧ ¬Shut t.val j := by
      by_contra h
      exact hj (logit_closed m c t kv kv.isLt g g.isLt i j ⟨t.val, by omega⟩ rfl h)
    have h2 := h.2
    rw [ht, shut_sample cc j] at h2
    rw [value_open m c t kv kv.isLt d j ⟨t.val, by omega⟩ rfl h.2 ⟨128 * t.val + j - 128, by omega⟩ (by dsimp only; omega)]
    exact (hs.sample _ _ ⟨128 * cc + j - 128, by omega⟩ (by dsimp only; omega)).trans
      (valueS_apply V0 _ _ kv d _ (by dsimp only; omega) _ rfl).symm

/-- The two results agree. -/
theorem out_eq (hs : Same m c V0) : refOut V0 = outAll m c := by
  funext z
  obtain ⟨n, y, rfl⟩ : ∃ (n : Fin 32768) (y : Fin 4096), z = ix2 n y := ⟨z 0, z 1, (ix2_eta z).symm⟩
  have hN : (cfgM m).N = 256 := N_eq
  have hr : outAll m c (ix2 n y) = headOf m c ⟨(n : ℕ) / 128, by rw [hN]; omega⟩ ((⟨(y : ℕ) / 512, by omega⟩ : Fin 8) : ℕ)
      (Fin.isLt _) ((⟨(y : ℕ) % 512 / 128, by omega⟩ : Fin 4) : ℕ) (Fin.isLt _)
      (ix2 ⟨(n : ℕ) % 128, by omega⟩ ⟨(y : ℕ) % 128, by omega⟩) := rfl
  rw [hr]
  pointwise [refOut]
  by_cases h : (n : ℕ) < 16384
  · rw [dif_pos h, tailP_apply _ _ ⟨n, h⟩ y ⟨(n : ℕ) / 2048, by omega⟩ ⟨(n : ℕ) / 128 % 16, by omega⟩ ⟨(y : ℕ) / 512, by omega⟩
      ⟨(y : ℕ) % 512 / 128, by omega⟩ ⟨(n : ℕ) % 128, by omega⟩ ⟨(y : ℕ) % 128, by omega⟩ (by dsimp only; omega) (by dsimp only; omega)]
    exact (head_prompt hs _ _ _ (by dsimp only; omega) _ _ _ _).symm
  · rw [dif_neg h, tailS_apply _ _ ⟨(n : ℕ) - 16384, by omega⟩ y 0 ⟨((n : ℕ) - 16384) / 128, by omega⟩ ⟨(y : ℕ) / 512, by omega⟩
      ⟨(y : ℕ) % 512 / 128, by omega⟩ ⟨(n : ℕ) % 128, by omega⟩ ⟨(y : ℕ) % 128, by omega⟩ (by dsimp only; omega) (by dsimp only; omega)]
    exact (head_sample hs _ _ (by dsimp only; omega) _ _ _ _).symm

/-- The shapes the precondition's operations go between. -/
theorem finite_facts : Cert.Pre_finite.Facts where
  slices_S8x2048x6144_S8x2048x5120_0_0_0 := by decide
  bcast_S_S8x2048x5120 := by decide
  slices_S1x16384x6144_S1x16384x5120_0_0_0 := by decide
  bcast_S_S1x16384x5120 := by decide
  bcast_S_S32 := by decide

/-- A number whose absolute value lies below infinity is real. -/
theorem real_of_abs (x : EReal) (h : max x (-x) < ⊤) : ∃ r : ℝ, x = r := by
  induction x using EReal.rec with
  | bot => simp at h
  | coe r => exact ⟨r, rfl⟩
  | top => simp at h

attribute [local instance] finite_facts

section Pre
variable (A : FVec Ideal Pre_finite.S8x2048x6144 .f32) (B : FVec Ideal Pre_finite.S1x16384x6144 .f32) (C : FVec Ideal Pre_finite.S32 .f32)

/-- What one comparison of the precondition says. -/
theorem real_of_bit (x : EReal) (h : BitVec.ofBool (decide (FloatOps.absf (F := Ideal) (φ := .f32) x < Ideal.ofBits .f32 0x7F800000#32)) = 1#1) :
    ∃ z : ℝ, x = z := by
  refine real_of_abs x ?_
  have h2 : FloatOps.absf (F := Ideal) (φ := .f32) x < Ideal.ofBits .f32 0x7F800000#32 := by
    by_contra h3
    rw [decide_eq_false h3] at h
    exact absurd h (by decide)
  exact lt_of_lt_of_le h2 le_top

theorem real_prompt (h : (Pre_finite.fn (F := Ideal) A B C).1 = fun _ => 1#1) (b : Fin 8) (r : Fin 2048) (x : Fin 6144) (hx : (x : ℕ) < 5120) :
    ∃ z : ℝ, @Eq EReal (A (ix3 b r x)) (z : EReal) := by
  have h := congrFun h (ix3 b r ⟨x, hx⟩)
  revert h
  pointwise [Pre_finite.fn]
  exact fun h => real_of_bit _ h

theorem real_sample (h : (Pre_finite.fn (F := Ideal) A B C).2.1 = fun _ => 1#1) (r : Fin 16384) (x : Fin 6144) (hx : (x : ℕ) < 5120) :
    ∃ z : ℝ, @Eq EReal (B (ix3 0 r x)) (z : EReal) := by
  have h := congrFun h (ix3 0 r ⟨x, hx⟩)
  revert h
  pointwise [Pre_finite.fn]
  exact fun h => real_of_bit _ h

theorem real_sink (h : (Pre_finite.fn (F := Ideal) A B C).2.2 = fun _ => 1#1) (n : Fin 32) :
    ∃ z : ℝ, @Eq EReal (C (ix1 n)) (z : EReal) := by
  have h := congrFun h (ix1 n)
  revert h
  pointwise [Pre_finite.fn]
  exact fun h => real_of_bit _ h

end Pre

/-- Finite arguments the two sides share are what the comparison asks for. -/
theorem same (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (hpre : Cert.Pre_KernelIdeal_finite m)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2)) :
    Same m c (launchContents m' c) := by
  obtain ⟨p0, p1, p2⟩ := hpre c
  have hsink : KernelIdeal.Attn.V m c KernelIdeal.main_arg2 = m ((c.tc : Thread KernelIdeal.nD KernelIdeal.τ).loc KernelIdeal.main_arg2) := V_arg2 m c
  constructor
  · intro n z b r hn
    exact (P_prompt m c n z b r hn).trans (congrFun h0 (ix3 b r z)).symm
  · intro n z r hn
    exact (P_sample m c n z r hn).trans (congrFun h1 (ix3 0 r z)).symm
  · intro h
    exact (congrFun hsink (ix1 h)).trans (congrFun h2 (ix1 h)).symm
  · intro n z hz
    by_cases h : (n : ℕ) < 16384
    · rw [P_prompt m c n z ⟨(n : ℕ) / 2048, by omega⟩ ⟨(n : ℕ) % 2048, by omega⟩ (by dsimp only; omega)]
      exact real_prompt _ _ _ p0 _ _ _ hz
    · rw [P_sample m c n z ⟨(n : ℕ) - 16384, by omega⟩ (by dsimp only; omega)]
      exact real_sample _ _ _ p1 _ _ hz
  · intro h
    obtain ⟨z, hz⟩ := real_sink _ _ _ p2 h
    exact ⟨z, (congrFun hsink (ix1 h)).trans hz⟩

/-- Every execution of the kernel from finite arguments ends, with its arguments as they were and every counter at zero. -/
theorem frame_ideal_finite : Cert.quiescent_KernelIdeal_pre_finite := fun m ρ _ => KernelIdeal.Attn.frame_main (F := Ideal) m ρ

/-- Every execution of the reference ends, with its arguments as they were and every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from finite arguments. -/
theorem frame_reference_finite : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The exponentials of the prompts' logits, by their definition. -/
theorem exps_prompt (V0 : Valuation ReferenceIdeal.τ ReferenceIdeal.sig (Elt Ideal)) :
    ReferenceIdeal.Value.res_main_v98 V0 = expP (ReferenceIdeal.Value.res_main_v91 V0) (maxP (ReferenceIdeal.Value.res_main_v91 V0)) := by
  unfold ReferenceIdeal.Value.res_main_v98 expP maxP
  with_reducible rfl

/-- The exponentials of the sample's logits, by their definition. -/
theorem exps_sample (V0 : Valuation ReferenceIdeal.τ ReferenceIdeal.sig (Elt Ideal)) :
    ReferenceIdeal.Value.res_main_v178 V0 = expS (ReferenceIdeal.Value.res_main_v171 V0) (maxS (ReferenceIdeal.Value.res_main_v171 V0)) := by
  unfold ReferenceIdeal.Value.res_main_v178 expS maxS
  with_reducible rfl

/-- The reference leaves `refOut`. -/
theorem run_ref (m' : (ℓ : Loc ReferenceIdeal.nD ReferenceIdeal.τ ReferenceIdeal.sig) → Buf (Elt Ideal) ℓ) (ρ' : Dev ReferenceIdeal.nD → PrngReg) :
    θ_run (Cert.ReferenceIdeal.defs (F := Ideal)) (onTc (τ := ReferenceIdeal.τ) (ReferenceIdeal.main (F := Ideal))) ⟨m', fun _ => 0, ρ'⟩ (fun r => ∀ c : Dev ReferenceIdeal.nD,
      r.2.mem ((c.tc : Thread ReferenceIdeal.nD ReferenceIdeal.τ).loc ReferenceIdeal.main_v189) = refOut (launchContents m' c)
      ∧ r.2.mem ((c.tc : Thread ReferenceIdeal.nD ReferenceIdeal.τ).loc ReferenceIdeal.main_arg0) = m' ((c.tc : Thread ReferenceIdeal.nD ReferenceIdeal.τ).loc ReferenceIdeal.main_arg0)
      ∧ r.2.mem ((c.tc : Thread ReferenceIdeal.nD ReferenceIdeal.τ).loc ReferenceIdeal.main_arg1) = m' ((c.tc : Thread ReferenceIdeal.nD ReferenceIdeal.τ).loc ReferenceIdeal.main_arg1)
      ∧ r.2.mem ((c.tc : Thread ReferenceIdeal.nD ReferenceIdeal.τ).loc ReferenceIdeal.main_arg2) = m' ((c.tc : Thread ReferenceIdeal.nD ReferenceIdeal.τ).loc ReferenceIdeal.main_arg2)) :=
  (θ_run _ _ _).mono (fun r h c => ⟨(h c).1.trans (by
      unfold refOut tailP tailS
      rw [exps_prompt, exps_sample]), (h c).2⟩) (Cert.ReferenceIdeal.Value.run (F := Ideal) m' ρ')

/-- Over the extended reals, from finite queries, keys and sinks, the kernel and the reference leave the same result. -/
theorem algebraic : Cert.algebraic_KernelIdeal_ReferenceIdeal_pre_finite := by
  intro m ρ m' ρ' hpre hagree
  refine ⟨fun c => outAll m c, ?_, ?_⟩
  · refine (θ_run _ _ _).mono (fun r h c => ?_) (KernelIdeal.Attn.run_blocks (F := Ideal) m ρ)
    obtain ⟨e, e0, e1, e2⟩ := h.1 c
    exact ⟨e.trans (final m c), e0, e1, e2⟩
  · refine (θ_run _ _ _).mono (fun r h c => ?_) (run_ref m' ρ')
    obtain ⟨e, e1⟩ := h c
    obtain ⟨h0, h1, h2⟩ := hagree c
    exact ⟨e.trans (out_eq (same m m' c hpre h0 h1 h2)), e1⟩

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Hidden
public import proofs.«01_k».proof.Proof.Gen.Hidden.Frame
public import proofs.«01_k».proof.Proof.Gen.HiddenIdeal
public import proofs.«01_k».proof.Proof.Gen.HiddenIdeal.Frame
public import proofs.«01_k».proof.Proof.Gen.HiddenIdeal.Value
public import proofs.«01_k».proof.Proof.Gen.HiddenReferenceIdeal
public import proofs.«01_k».proof.Proof.Gen.HiddenReferenceIdeal.Run
public import proofs.«01_k».proof.Proof.Gen.RetIn
public import proofs.«01_k».proof.Proof.Gen.RetIn.Frame
public import proofs.«01_k».proof.Proof.Gen.RetInIdeal
public import proofs.«01_k».proof.Proof.Gen.RetInIdeal.Frame
public import proofs.«01_k».proof.Proof.Gen.RetInIdeal.Value
public import proofs.«01_k».proof.Proof.Gen.RetInReferenceIdeal
public import proofs.«01_k».proof.Proof.Gen.RetInReferenceIdeal.Run
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.RetOut
public import proofs.«01_k».proof.Proof.Gen.RetOut.Frame
public import proofs.«01_k».proof.Proof.Gen.RetOutIdeal
public import proofs.«01_k».proof.Proof.Gen.RetOutIdeal.Frame
public import proofs.«01_k».proof.Proof.Gen.RetOutIdeal.Value
public import proofs.«01_k».proof.Proof.Gen.RetOutReferenceIdeal
public import proofs.«01_k».proof.Proof.Gen.RetOutReferenceIdeal.Run
public import proofs.«01_k».proof.Proof.Gen.AttnIn
public import proofs.«01_k».proof.Proof.Gen.AttnIn.Frame
public import proofs.«01_k».proof.Proof.Gen.AttnInIdeal
public import proofs.«01_k».proof.Proof.Gen.AttnInIdeal.Frame
public import proofs.«01_k».proof.Proof.Gen.AttnInIdeal.Value
public import proofs.«01_k».proof.Proof.Gen.AttnInReferenceIdeal
public import proofs.«01_k».proof.Proof.Gen.AttnInReferenceIdeal.Run
public import proofs.«01_k».proof.Proof.Gen.AttnOut
public import proofs.«01_k».proof.Proof.Gen.AttnOut.Frame
public import proofs.«01_k».proof.Proof.Gen.AttnOutIdeal
public import proofs.«01_k».proof.Proof.Gen.AttnOutIdeal.Frame
public import proofs.«01_k».proof.Proof.Gen.AttnOutIdeal.Value
public import proofs.«01_k».proof.Proof.Gen.AttnOutReferenceIdeal
public import proofs.«01_k».proof.Proof.Gen.AttnOutReferenceIdeal.Run
public import proofs.«01_k».proof.Proof.Mm.Hidden
public import proofs.«01_k».proof.Proof.Mm.RetIn
public import proofs.«01_k».proof.Proof.Mm.Down
public import proofs.«01_k».proof.Proof.Mm.RetOut
public import proofs.«01_k».proof.Proof.Mm.AttnIn
public import proofs.«01_k».proof.Proof.Mm.AttnOut
public import proofs.«01_k».proof.Proof.Attn.FrameIdeal
public import proofs.«01_k».proof.Proof.Attn.Value
public import Idealize.ShloMosaic.Lib.Quiescent

/-! The claim, put together: the frame of every program, and of every kernel the equality with its reference. -/

@[expose] public section

noncomputable section

namespace Cert.Proof

open Idealize.ShloMosaic Idealize.SL.Sem

/-- Every execution of Hidden's reference ends, with its arguments as they were and every counter at zero. -/
theorem frame_HiddenReference : Cert.quiescent_HiddenReferenceIdeal := fun m ρ _ =>
  (θ_run Cert.HiddenReferenceIdeal.defs _ _).mono (fun r h => ⟨fun c => (h c).2, sem_eq_zero_of_no_sems (by decide) r.2⟩)
    (Cert.HiddenReferenceIdeal.Value.run (F := Ideal) m ρ)

/-- Every execution of RetIn's reference ends, with its arguments as they were and every counter at zero. -/
theorem frame_RetInReference : Cert.quiescent_RetInReferenceIdeal := fun m ρ _ =>
  (θ_run Cert.RetInReferenceIdeal.defs _ _).mono (fun r h => ⟨fun c => (h c).2, sem_eq_zero_of_no_sems (by decide) r.2⟩)
    (Cert.RetInReferenceIdeal.Value.run (F := Ideal) m ρ)

/-- Every execution of Down's reference ends, with its arguments as they were and every counter at zero. -/
theorem frame_DownReference : Cert.quiescent_DownReferenceIdeal := fun m ρ _ =>
  (θ_run Cert.DownReferenceIdeal.defs _ _).mono (fun r h => ⟨fun c => (h c).2, sem_eq_zero_of_no_sems (by decide) r.2⟩)
    (Cert.DownReferenceIdeal.Value.run (F := Ideal) m ρ)

/-- Every execution of RetOut's reference ends, with its arguments as they were and every counter at zero. -/
theorem frame_RetOutReference : Cert.quiescent_RetOutReferenceIdeal := fun m ρ _ =>
  (θ_run Cert.RetOutReferenceIdeal.defs _ _).mono (fun r h => ⟨fun c => (h c).2, sem_eq_zero_of_no_sems (by decide) r.2⟩)
    (Cert.RetOutReferenceIdeal.Value.run (F := Ideal) m ρ)

/-- Every execution of AttnIn's reference ends, with its arguments as they were and every counter at zero. -/
theorem frame_AttnInReference : Cert.quiescent_AttnInReferenceIdeal := fun m ρ _ =>
  (θ_run Cert.AttnInReferenceIdeal.defs _ _).mono (fun r h => ⟨fun c => (h c).2, sem_eq_zero_of_no_sems (by decide) r.2⟩)
    (Cert.AttnInReferenceIdeal.Value.run (F := Ideal) m ρ)

/-- Every execution of AttnOut's reference ends, with its arguments as they were and every counter at zero. -/
theorem frame_AttnOutReference : Cert.quiescent_AttnOutReferenceIdeal := fun m ρ _ =>
  (θ_run Cert.AttnOutReferenceIdeal.defs _ _).mono (fun r h => ⟨fun c => (h c).2, sem_eq_zero_of_no_sems (by decide) r.2⟩)
    (Cert.AttnOutReferenceIdeal.Value.run (F := Ideal) m ρ)

/-- The claim. -/
theorem claim : Cert.Claim :=
  ⟨Cert.Kernel.Gen.facts,
    Cert.KernelIdeal.Gen.facts,
    Cert.ReferenceIdeal.Gen.facts,
    Cert.Hidden.Gen.facts,
    Cert.HiddenIdeal.Gen.facts,
    Cert.HiddenReferenceIdeal.Gen.facts,
    Cert.RetIn.Gen.facts,
    Cert.RetInIdeal.Gen.facts,
    Cert.RetInReferenceIdeal.Gen.facts,
    Cert.Down.Gen.facts,
    Cert.DownIdeal.Gen.facts,
    Cert.DownReferenceIdeal.Gen.facts,
    Cert.RetOut.Gen.facts,
    Cert.RetOutIdeal.Gen.facts,
    Cert.RetOutReferenceIdeal.Gen.facts,
    Cert.AttnIn.Gen.facts,
    Cert.AttnInIdeal.Gen.facts,
    Cert.AttnInReferenceIdeal.Gen.facts,
    Cert.AttnOut.Gen.facts,
    Cert.AttnOutIdeal.Gen.facts,
    Cert.AttnOutReferenceIdeal.Gen.facts,
    Cert.Attn.finite_facts,
    Cert.Attn.frame_kernel,
    Cert.Attn.frame_ideal,
    Cert.Attn.frame_ideal_finite,
    Cert.Attn.frame_reference,
    Cert.Attn.frame_reference_finite,
    fun m ρ _ => Cert.Hidden.Gen.frame m ρ,
    fun m ρ _ => Cert.HiddenIdeal.Gen.frame m ρ,
    frame_HiddenReference,
    fun m ρ _ => Cert.RetIn.Gen.frame m ρ,
    fun m ρ _ => Cert.RetInIdeal.Gen.frame m ρ,
    frame_RetInReference,
    fun m ρ _ => Cert.Down.Gen.frame m ρ,
    fun m ρ _ => Cert.DownIdeal.Gen.frame m ρ,
    frame_DownReference,
    fun m ρ _ => Cert.RetOut.Gen.frame m ρ,
    fun m ρ _ => Cert.RetOutIdeal.Gen.frame m ρ,
    frame_RetOutReference,
    fun m ρ _ => Cert.AttnIn.Gen.frame m ρ,
    fun m ρ _ => Cert.AttnInIdeal.Gen.frame m ρ,
    frame_AttnInReference,
    fun m ρ _ => Cert.AttnOut.Gen.frame m ρ,
    fun m ρ _ => Cert.AttnOutIdeal.Gen.frame m ρ,
    frame_AttnOutReference,
    Cert.Attn.preserves,
    Cert.Attn.algebraic,
    trivial,
    Cert.Hidden.algebraic,
    trivial,
    Cert.RetIn.algebraic,
    trivial,
    Cert.Down.algebraic,
    trivial,
    Cert.RetOut.algebraic,
    trivial,
    Cert.AttnIn.algebraic,
    trivial,
    Cert.AttnOut.algebraic⟩

end Cert.Proof

end
